-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_flags [hPre_flags : Cert.Pre_flags.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_flags.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_flags [hPre_flags : Cert.Pre_flags.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_flags.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_flags [hKernel2Ideal : Cert.Kernel2Ideal.Facts] [hPre_flags : Cert.Pre_flags.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_flags m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_flags [hReference2Ideal : Cert.Reference2Ideal.Facts] [hPre_flags : Cert.Pre_flags.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_flags m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_flags [hKernel2Ideal : Cert.Kernel2Ideal.Facts] [hReference2Ideal : Cert.Reference2Ideal.Facts] [hPre_flags : Cert.Pre_flags.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_flags m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v85)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v85) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v191) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_flags : Cert.Pre_flags.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_flags (hKernel2Ideal := hKernel2Ideal) (hPre_flags := hPre_flags)
    ∧ quiescent_Reference2Ideal (hReference2Ideal := hReference2Ideal)
    ∧ quiescent_Reference2Ideal_pre_flags (hReference2Ideal := hReference2Ideal) (hPre_flags := hPre_flags)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_flags (hKernel2Ideal := hKernel2Ideal) (hReference2Ideal := hReference2Ideal) (hPre_flags := hPre_flags)
-- ==== Pre_flags.lean ====
abbrev S1x512x32x32 : Shape := ⟨4, ![1, 512, 32, 32]⟩
abbrev S300x4 : Shape := ⟨2, ![300, 4]⟩
abbrev S300 : Shape := ⟨1, ![300]⟩
abbrev S_ : Shape := ⟨0, ![]⟩

class Facts : Prop where
  bcast_S_S300 : S_.BroadcastsInDim S300 (![] : Fin 0 → Fin S300.rank)

variable [Facts]

def fn {F : FTy → Type} [FloatOps F] (main_arg0 : FVec F S1x512x32x32 .f32) (main_arg1 : FVec F S300x4 .f32) (main_arg2 : FVec F S300 .f32) : IVec S300 1 :=
  let main_cst : FVec F S_ .f32 := constant S_ .f32 0x00000000#32
  let main_v0 : FVec F S300 .f32 := broadcastInDim S300 ![] bcast_S_S300 main_cst
  let main_v1 : IVec S300 1 := cmpf .oge main_arg2 main_v0
  let main_cst_0 : FVec F S_ .f32 := constant S_ .f32 0x7F800000#32
  let main_v2 : FVec F S300 .f32 := broadcastInDim S300 ![] bcast_S_S300 main_cst_0
  let main_v3 : IVec S300 1 := cmpf .olt main_arg2 main_v2
  let main_v4 : IVec S300 1 := andi main_v1 main_v3
  main_v4
-- ==== Kernel.lean ====
abbrev S1x512x32x32 : Shape := ⟨4, ![1, 512, 32, 32]⟩
abbrev S256x512x3x3 : Shape := ⟨4, ![256, 512, 3, 3]⟩
abbrev S256 : Shape := ⟨1, ![256]⟩
abbrev S48x256x1x1 : Shape := ⟨4, ![48, 256, 1, 1]⟩
abbrev S48 : Shape := ⟨1, ![48]⟩
abbrev S12x256x1x1 : Shape := ⟨4, ![12, 256, 1, 1]⟩
abbrev S12 : Shape := ⟨1, ![12]⟩
abbrev S12x2 : Shape := ⟨2, ![12, 2]⟩
abbrev S512x32x32 : Shape := ⟨3, ![512, 32, 32]⟩
abbrev S32x32x512 : Shape := ⟨3, ![32, 32, 512]⟩
abbrev S1024x512 : Shape := ⟨2, ![1024, 512]⟩
abbrev S_ : Shape := ⟨0, ![]⟩
abbrev S34x34x512 : Shape := ⟨3, ![34, 34, 512]⟩
abbrev S512x1024 : Shape := ⟨2, ![512, 1024]⟩
abbrev S4608x1024 : Shape := ⟨2, ![4608, 1024]⟩
abbrev S256x3x3x512 : Shape := ⟨4, ![256, 3, 3, 512]⟩
abbrev S256x4608 : Shape := ⟨2, ![256, 4608]⟩
abbrev S256x1 : Shape := ⟨2, ![256, 1]⟩
abbrev S12x256 : Shape := ⟨2, ![12, 256]⟩
abbrev S12x1 : Shape := ⟨2, ![12, 1]⟩
abbrev S32 : Shape := ⟨1, ![32]⟩
abbrev S1x1x32 : Shape := ⟨3, ![1, 1, 32]⟩
abbrev S12x32x32 : Shape := ⟨3, ![12, 32, 32]⟩
abbrev S96x128 : Shape := ⟨2, ![96, 128]⟩
abbrev S1x32x1 : Shape := ⟨3, ![1, 32, 1]⟩
abbrev S12x1x1 : Shape := ⟨3, ![12, 1, 1]⟩
abbrev S304x128 : Shape := ⟨2, ![304, 128]⟩
abbrev S6x96x128 : Shape := ⟨3, ![6, 96, 128]⟩
abbrev S256x1024 : Shape := ⟨2, ![256, 1024]⟩
abbrev S12x1024 : Shape := ⟨2, ![12, 1024]⟩
abbrev S1x128 : Shape := ⟨2, ![1, 128]⟩
abbrev S1x96x128 : Shape := ⟨3, ![1, 96, 128]⟩
abbrev S1 : Shape := ⟨1, ![1]⟩
abbrev S1x1x1 : Shape := ⟨3, ![1, 1, 1]⟩
abbrev S300x4 : Shape := ⟨2, ![300, 4]⟩
abbrev S300x1 : Shape := ⟨2, ![300, 1]⟩
abbrev S300 : Shape := ⟨1, ![300]⟩

abbrev nBuf : Space → Nat
  | .hbm => 98
  | .vmem => 19
  | .smem => 0
  | _ => 0

abbrev bufTy : (tb : Table) → Fin (tcTables nBuf tb) → BufTy
  | .hbm, ⟨0, _⟩ => ⟨S1x512x32x32, .f32⟩
  | .hbm, ⟨1, _⟩ => ⟨S256x512x3x3, .f32⟩
  | .hbm, ⟨2, _⟩ => ⟨S256, .f32⟩
  | .hbm, ⟨3, _⟩ => ⟨S48x256x1x1, .f32⟩
  | .hbm, ⟨4, _⟩ => ⟨S48, .f32⟩
  | .hbm, ⟨5, _⟩ => ⟨S12x256x1x1, .f32⟩
  | .hbm, ⟨6, _⟩ => ⟨S12, .f32⟩
  | .hbm, ⟨7, _⟩ => ⟨S12x2, .f32⟩
  | .hbm, ⟨8, _⟩ => ⟨S512x32x32, .f32⟩
  | .hbm, ⟨9, _⟩ => ⟨S32x32x512, .f32⟩
  | .hbm, ⟨10, _⟩ => ⟨S1024x512, .f32⟩
  | .hbm, ⟨11, _⟩ => ⟨S_, .i32⟩
  | .hbm, ⟨12, _⟩ => ⟨S_, .f32⟩
  | .hbm, ⟨13, _⟩ => ⟨S34x34x512, .f32⟩
  | .hbm, ⟨14, _⟩ => ⟨S32x32x512, .f32⟩
  | .hbm, ⟨15, _⟩ => ⟨S1024x512, .f32⟩
  | .hbm, ⟨16, _⟩ => ⟨S512x1024, .f32⟩
  | .hbm, ⟨17, _⟩ => ⟨S32x32x512, .f32⟩
  | .hbm, ⟨18, _⟩ => ⟨S1024x512, .f32⟩
  | .hbm, ⟨19, _⟩ => ⟨S512x1024, .f32⟩
  | .hbm, ⟨20, _⟩ => ⟨S32x32x512, .f32⟩
  | .hbm, ⟨21, _⟩ => ⟨S1024x512, .f32⟩
  | .hbm, ⟨22, _⟩ => ⟨S512x1024, .f32⟩
  | .hbm, ⟨23, _⟩ => ⟨S32x32x512, .f32⟩
  | .hbm, ⟨24, _⟩ => ⟨S1024x512, .f32⟩
  | .hbm, ⟨25, _⟩ => ⟨S512x1024, .f32⟩
  | .hbm, ⟨26, _⟩ => ⟨S32x32x512, .f32⟩
  | .hbm, ⟨27, _⟩ => ⟨S1024x512, .f32⟩
  | .hbm, ⟨28, _⟩ => ⟨S512x1024, .f32⟩
  | .hbm, ⟨29, _⟩ => ⟨S32x32x512, .f32⟩
  | .hbm, ⟨30, _⟩ => ⟨S1024x512, .f32⟩
  | .hbm, ⟨31, _⟩ => ⟨S512x1024, .f32⟩
  | .hbm, ⟨32, _⟩ => ⟨S32x32x512, .f32⟩
  | .hbm, ⟨33, _⟩ => ⟨S1024x512, .f32⟩
  | .hbm, ⟨34, _⟩ => ⟨S512x1024, .f32⟩
  | .hbm, ⟨35, _⟩ => ⟨S32x32x512, .f32⟩
  | .hbm, ⟨36, _⟩ => ⟨S1024x512, .f32⟩
  | .hbm, ⟨37, _⟩ => ⟨S512x1024, .f32⟩
  | .hbm, ⟨38, _⟩ => ⟨S32x32x512, .f32⟩
  | .hbm, ⟨39, _⟩ => ⟨S1024x512, .f32⟩
  | .hbm, ⟨40, _⟩ => ⟨S512x1024, .f32⟩
  | .hbm, ⟨41, _⟩ => ⟨S4608x1024, .f32⟩
  | .hbm, ⟨42, _⟩ => ⟨S256x3x3x512, .f32⟩
  | .hbm, ⟨43, _⟩ => ⟨S256x4608, .f32⟩
  | .hbm, ⟨44, _⟩ => ⟨S256x1, .f32⟩
  | .hbm, ⟨45, _⟩ => ⟨S12x256x1x1, .f32⟩
  | .hbm, ⟨46, _⟩ => ⟨S12x256, .f32⟩
  | .hbm, ⟨47, _⟩ => ⟨S12x256x1x1, .f32⟩
  | .hbm, ⟨48, _⟩ => ⟨S12x256, .f32⟩
  | .hbm, ⟨49, _⟩ => ⟨S12x256x1x1, .f32⟩
  | .hbm, ⟨50, _⟩ => ⟨S12x256, .f32⟩
  | .hbm, ⟨51, _⟩ => ⟨S12x256x1x1, .f32⟩
  | .hbm, ⟨52, _⟩ => ⟨S12x256, .f32⟩
  | .hbm, ⟨53, _⟩ => ⟨S12, .f32⟩
  | .hbm, ⟨54, _⟩ => ⟨S12x1, .f32⟩
  | .hbm, ⟨55, _⟩ => ⟨S12, .f32⟩
  | .hbm, ⟨56, _⟩ => ⟨S12x1, .f32⟩
  | .hbm, ⟨57, _⟩ => ⟨S12, .f32⟩
  | .hbm, ⟨58, _⟩ => ⟨S12x1, .f32⟩
  | .hbm, ⟨59, _⟩ => ⟨S12, .f32⟩
  | .hbm, ⟨60, _⟩ => ⟨S12x1, .f32⟩
  | .hbm, ⟨61, _⟩ => ⟨S12x256, .f32⟩
  | .hbm, ⟨62, _⟩ => ⟨S12x1, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S1x1x32, .f32⟩
  | .hbm, ⟨78, _⟩ => ⟨S12x32x32, .f32⟩
  | .hbm, ⟨79, _⟩ => ⟨S96x128, .f32⟩
  | .hbm, ⟨80, _⟩ => ⟨S1x32x1, .f32⟩
  | .hbm, ⟨81, _⟩ => ⟨S12x32x32, .f32⟩
  | .hbm, ⟨82, _⟩ => ⟨S96x128, .f32⟩
  | .hbm, ⟨83, _⟩ => ⟨S12x1, .f32⟩
  | .hbm, ⟨84, _⟩ => ⟨S12, .f32⟩
  | .hbm, ⟨85, _⟩ => ⟨S12x1x1, .f32⟩
  | .hbm, ⟨86, _⟩ => ⟨S12x32x32, .f32⟩
  | .hbm, ⟨87, _⟩ => ⟨S96x128, .f32⟩
  | .hbm, ⟨88, _⟩ => ⟨S12x1, .f32⟩
  | .hbm, ⟨89, _⟩ => ⟨S12, .f32⟩
  | .hbm, ⟨90, _⟩ => ⟨S12x1x1, .f32⟩
  | .hbm, ⟨91, _⟩ => ⟨S12x32x32, .f32⟩
  | .hbm, ⟨92, _⟩ => ⟨S96x128, .f32⟩
  | .hbm, ⟨93, _⟩ => ⟨S304x128, .f32⟩
  | .hbm, ⟨94, _⟩ => ⟨S6x96x128, .f32⟩
  | .hbm, ⟨95, _⟩ => ⟨S300x4, .f32⟩
  | .hbm, ⟨96, _⟩ => ⟨S300x1, .f32⟩
  | .hbm, ⟨97, _⟩ => ⟨S300, .f32⟩
  | .local _ .vmem, ⟨0, _⟩ => ⟨S4608x1024, .f32⟩
  | .local _ .vmem, ⟨1, _⟩ => ⟨S256x4608, .f32⟩
  | .local _ .vmem, ⟨2, _⟩ => ⟨S256x1, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | .local _ .vmem, ⟨7, _⟩ => ⟨S12x1, .f32⟩
  | .local _ .vmem, ⟨8, _⟩ => ⟨S12x1, .f32⟩
  | .local _ .vmem, ⟨9, _⟩ => ⟨S12x1, .f32⟩
  | .local _ .vmem, ⟨10, _⟩ => ⟨S12x1, .f32⟩
  | .local _ .vmem, ⟨11, _⟩ => ⟨S12x256, .f32⟩
  | .local _ .vmem, ⟨12, _⟩ => ⟨S12x1, .f32⟩
  | .local _ .vmem, ⟨13, _⟩ => ⟨S96x128, .f32⟩
  | .local _ .vmem, ⟨14, _⟩ => ⟨S96x128, .f32⟩
  | .local _ .vmem, ⟨15, _⟩ => ⟨S96x128, .f32⟩
  | .local _ .vmem, ⟨16, _⟩ => ⟨S96x128, .f32⟩
  | .local _ .vmem, ⟨17, _⟩ => ⟨S304x128, .f32⟩
  | .local _ .vmem, ⟨18, _⟩ => ⟨S6x96x128, .f32⟩
  | _, _ => ⟨S1x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_0 : Ref sig .tc := ⟨.hbm, 64, rfl⟩
abbrev main_v54 : Ref sig .tc := ⟨.hbm, 65, rfl⟩
abbrev main_v55 : Ref sig .tc := ⟨.hbm, 66, rfl⟩
abbrev main_cst_1 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_2 : Ref sig .tc := ⟨.hbm, 71, rfl⟩
abbrev main_v59 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79_0 : Ref sig .tc := ⟨.hbm, 93, rfl⟩
abbrev main_v79_1 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c300_i32 : BitVec 32 := 300#32
  let v149 : BitVec 32 := Scalar.addi c0_i32 c300_i32
  let c1_i32 : BitVec 32 := 1#32
  ⟨c0_i32, v149, c1_i32⟩
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let v269 : Index := Scalar.indexCast arg19
  let c0_95 : Index := 0#32
  ![v269.toNat, 0]
abbrev stage0_0 : Fin 1 → Memref sig .tc .vmem S4608x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S96x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S96x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S96x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S96x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S304x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S6x96x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== ReferenceIdeal.lean ====
abbrev S1x512x32x32 : Shape := ⟨4, ![1, 512, 32, 32]⟩
abbrev S256x512x3x3 : Shape := ⟨4, ![256, 512, 3, 3]⟩
abbrev S256 : Shape := ⟨1, ![256]⟩
abbrev S48x256x1x1 : Shape := ⟨4, ![48, 256, 1, 1]⟩
abbrev S48 : Shape := ⟨1, ![48]⟩
abbrev S12x256x1x1 : Shape := ⟨4, ![12, 256, 1, 1]⟩
abbrev S12 : Shape := ⟨1, ![12]⟩
abbrev S12x2 : Shape := ⟨2, ![12, 2]⟩
abbrev S512x32x32 : Shape := ⟨3, ![512, 32, 32]⟩
abbrev S_ : Shape := ⟨0, ![]⟩
abbrev S512x34x34 : Shape := ⟨3, ![512, 34, 34]⟩
abbrev S256x32x32 : Shape := ⟨3, ![256, 32, 32]⟩
abbrev S256x512x1x1 : Shape := ⟨4, ![256, 512, 1, 1]⟩
abbrev S256x512 : Shape := ⟨2, ![256, 512]⟩
abbrev S1x256x32x32 : Shape := ⟨4, ![1, 256, 32, 32]⟩
abbrev S1x256x1x1 : Shape := ⟨4, ![1, 256, 1, 1]⟩
abbrev S48x32x32 : Shape := ⟨3, ![48, 32, 32]⟩
abbrev S48x256 : Shape := ⟨2, ![48, 256]⟩
abbrev S1x48x32x32 : Shape := ⟨4, ![1, 48, 32, 32]⟩
abbrev S1x48x1x1 : Shape := ⟨4, ![1, 48, 1, 1]⟩
abbrev S12x32x32 : Shape := ⟨3, ![12, 32, 32]⟩
abbrev S12x256 : Shape := ⟨2, ![12, 256]⟩
abbrev S1x12x32x32 : Shape := ⟨4, ![1, 12, 32, 32]⟩
abbrev S1x12x1x1 : Shape := ⟨4, ![1, 12, 1, 1]⟩
abbrev S2x12 : Shape := ⟨2, ![2, 12]⟩
abbrev S32 : Shape := ⟨1, ![32]⟩
abbrev S1x12 : Shape := ⟨2, ![1, 12]⟩
abbrev S1x1x32 : Shape := ⟨3, ![1, 1, 32]⟩
abbrev S1x32x1 : Shape := ⟨3, ![1, 32, 1]⟩
abbrev S12x1x1 : Shape := ⟨3, ![12, 1, 1]⟩
abbrev S12x32x32x1 : Shape := ⟨4, ![12, 32, 32, 1]⟩
abbrev S12x32x32x4 : Shape := ⟨4, ![12, 32, 32, 4]⟩
abbrev S1x12288x4 : Shape := ⟨3, ![1, 12288, 4]⟩
abbrev S1x12x4x32x32 : Shape := ⟨5, ![1, 12, 4, 32, 32]⟩
abbrev S1x12x32x32x4 : Shape := ⟨5, ![1, 12, 32, 32, 4]⟩
abbrev S1x12288x1 : Shape := ⟨3, ![1, 12288, 1]⟩
abbrev S1x12288 : Shape := ⟨2, ![1, 12288]⟩
abbrev S1x12x1x32x32 : Shape := ⟨5, ![1, 12, 1, 32, 32]⟩
abbrev S1x12x32x32x1 : Shape := ⟨5, ![1, 12, 32, 32, 1]⟩
abbrev S12288 : Shape := ⟨1, ![12288]⟩
abbrev S12288x4 : Shape := ⟨2, ![12288, 4]⟩
abbrev S12288x1 : Shape := ⟨2, ![12288, 1]⟩
abbrev S300 : Shape := ⟨1, ![300]⟩
abbrev S1 : Shape := ⟨1, ![1]⟩
abbrev S300x1 : Shape := ⟨2, ![300, 1]⟩
abbrev S300x4 : Shape := ⟨2, ![300, 4]⟩

abbrev nBuf : Space → Nat
  | .hbm => 447
  | .vmem => 0
  | .smem => 0
  | _ => 0

abbrev hbmTy0_0 (i : Nat) : BufTy := match i % 128 with
  | 0 => ⟨S1x512x32x32, .f32⟩
  | 1 => ⟨S256x512x3x3, .f32⟩
  | 2 => ⟨S256, .f32⟩
  | 3 => ⟨S48x256x1x1, .f32⟩
  | 4 => ⟨S48, .f32⟩
  | 5 => ⟨S12x256x1x1, .f32⟩
  | 6 => ⟨S12, .f32⟩
  | 7 => ⟨S12x2, .f32⟩
  | 8 => ⟨S512x32x32, .f32⟩
  | 9 => ⟨S_, .i32⟩
  | 10 => ⟨S_, .f32⟩
  | 11 => ⟨S512x34x34, .f32⟩
  | 12 => ⟨S_, .f32⟩
  | 13 => ⟨S256x32x32, .f32⟩
  | 14 => ⟨S256x512x1x1, .f32⟩
  | 15 => ⟨S256x512, .f32⟩
  | 16 => ⟨S512x32x32, .f32⟩
  | 17 => ⟨S256x32x32, .f32⟩
  | 18 => ⟨S256x32x32, .f32⟩
  | 19 => ⟨S256x512x1x1, .f32⟩
  | 20 => ⟨S256x512, .f32⟩
  | 21 => ⟨S512x32x32, .f32⟩
  | 22 => ⟨S256x32x32, .f32⟩
  | 23 => ⟨S256x32x32, .f32⟩
  | 24 => ⟨S256x512x1x1, .f32⟩
  | 25 => ⟨S256x512, .f32⟩
  | 26 => ⟨S512x32x32, .f32⟩
  | 27 => ⟨S256x32x32, .f32⟩
  | 28 => ⟨S256x32x32, .f32⟩
  | 29 => ⟨S256x512x1x1, .f32⟩
  | 30 => ⟨S256x512, .f32⟩
  | 31 => ⟨S512x32x32, .f32⟩
  | 32 => ⟨S256x32x32, .f32⟩
  | 33 => ⟨S256x32x32, .f32⟩
  | 34 => ⟨S256x512x1x1, .f32⟩
  | 35 => ⟨S256x512, .f32⟩
  | 36 => ⟨S512x32x32, .f32⟩
  | 37 => ⟨S256x32x32, .f32⟩
  | 38 => ⟨S256x32x32, .f32⟩
  | 39 => ⟨S256x512x1x1, .f32⟩
  | 40 => ⟨S256x512, .f32⟩
  | 41 => ⟨S512x32x32, .f32⟩
  | 42 => ⟨S256x32x32, .f32⟩
  | 43 => ⟨S256x32x32, .f32⟩
  | 44 => ⟨S256x512x1x1, .f32⟩
  | 45 => ⟨S256x512, .f32⟩
  | 46 => ⟨S512x32x32, .f32⟩
  | 47 => ⟨S256x32x32, .f32⟩
  | 48 => ⟨S256x32x32, .f32⟩
  | 49 => ⟨S256x512x1x1, .f32⟩
  | 50 => ⟨S256x512, .f32⟩
  | 51 => ⟨S512x32x32, .f32⟩
  | 52 => ⟨S256x32x32, .f32⟩
  | 53 => ⟨S256x32x32, .f32⟩
  | 54 => ⟨S256x512x1x1, .f32⟩
  | 55 => ⟨S256x512, .f32⟩
  | 56 => ⟨S512x32x32, .f32⟩
  | 57 => ⟨S256x32x32, .f32⟩
  | 58 => ⟨S256x32x32, .f32⟩
  | 59 => ⟨S1x256x32x32, .f32⟩
  | 60 => ⟨S1x256x1x1, .f32⟩
  | 61 => ⟨S1x256x32x32, .f32⟩
  | 62 => ⟨S1x256x32x32, .f32⟩
  | 63 => ⟨S_, .f32⟩
  | 64 => ⟨S1x256x32x32, .f32⟩
  | 65 => ⟨S1x256x32x32, .f32⟩
  | 66 => ⟨S256x32x32, .f32⟩
  | 67 => ⟨S_, .i32⟩
  | 68 => ⟨S_, .f32⟩
  | 69 => ⟨S256x32x32, .f32⟩
  | 70 => ⟨S_, .f32⟩
  | 71 => ⟨S48x32x32, .f32⟩
  | 72 => ⟨S48x256, .f32⟩
  | 73 => ⟨S48x32x32, .f32⟩
  | 74 => ⟨S48x32x32, .f32⟩
  | 75 => ⟨S1x48x32x32, .f32⟩
  | 76 => ⟨S1x48x1x1, .f32⟩
  | 77 => ⟨S1x48x32x32, .f32⟩
  | 78 => ⟨S1x48x32x32, .f32⟩
  | 79 => ⟨S256x32x32, .f32⟩
  | 80 => ⟨S_, .i32⟩
  | 81 => ⟨S_, .f32⟩
  | 82 => ⟨S256x32x32, .f32⟩
  | 83 => ⟨S_, .f32⟩
  | 84 => ⟨S12x32x32, .f32⟩
  | 85 => ⟨S12x256, .f32⟩
  | 86 => ⟨S12x32x32, .f32⟩
  | 87 => ⟨S12x32x32, .f32⟩
  | 88 => ⟨S1x12x32x32, .f32⟩
  | 89 => ⟨S1x12x1x1, .f32⟩
  | 90 => ⟨S1x12x32x32, .f32⟩
  | 91 => ⟨S1x12x32x32, .f32⟩
  | 92 => ⟨S2x12, .f32⟩
  | 93 => ⟨S32, .f32⟩
  | 94 => ⟨S_, .f32⟩
  | 95 => ⟨S32, .f32⟩
  | 96 => ⟨S32, .f32⟩
  | 97 => ⟨S_, .f32⟩
  | 98 => ⟨S32, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S1x12, .f32⟩
  | 108 => ⟨S12, .f32⟩
  | 109 => ⟨S1x12, .f32⟩
  | 110 => ⟨S12, .f32⟩
  | 111 => ⟨S1x1x32, .f32⟩
  | 112 => ⟨S12x32x32, .f32⟩
  | 113 => ⟨S1x32x1, .f32⟩
  | 114 => ⟨S12x32x32, .f32⟩
  | 115 => ⟨S12x1x1, .f32⟩
  | 116 => ⟨S12x32x32, .f32⟩
  | 117 => ⟨S12x1x1, .f32⟩
  | 118 => ⟨S12x32x32, .f32⟩
  | 119 => ⟨S12x32x32x1, .f32⟩
  | 120 => ⟨S12x32x32x1, .f32⟩
  | 121 => ⟨S12x32x32x1, .f32⟩
  | 122 => ⟨S12x32x32x1, .f32⟩
  | 123 => ⟨S12x32x32x4, .f32⟩
  | 124 => ⟨S1x12288x4, .f32⟩
  | 125 => ⟨S1x12x4x32x32, .f32⟩
  | 126 => ⟨S1x12x32x32x4, .f32⟩
  | 127 => ⟨S1x12288x4, .f32⟩
  | _ => ⟨S1x512x32x32, .f32⟩

abbrev hbmTy0_1 (i : Nat) : BufTy := match i % 128 with
  | 0 => ⟨S1x12288x1, .f32⟩
  | 1 => ⟨S1x12288, .f32⟩
  | 2 => ⟨S1x12288x1, .f32⟩
  | 3 => ⟨S1x12288, .f32⟩
  | 4 => ⟨S1x12288x1, .f32⟩
  | 5 => ⟨S1x12288, .f32⟩
  | 6 => ⟨S1x12288x1, .f32⟩
  | 7 => ⟨S1x12288, .f32⟩
  | 8 => ⟨S1x12288x1, .f32⟩
  | 9 => ⟨S1x12288, .f32⟩
  | 10 => ⟨S1x12288x1, .f32⟩
  | 11 => ⟨S1x12288, .f32⟩
  | 12 => ⟨S1x12288x1, .f32⟩
  | 13 => ⟨S1x12288, .f32⟩
  | 14 => ⟨S1x12288x1, .f32⟩
  | 15 => ⟨S1x12288, .f32⟩
  | 16 => ⟨S1x12288, .f32⟩
  | 17 => ⟨S1x12288, .f32⟩
  | 18 => ⟨S1x12288, .f32⟩
  | 19 => ⟨S1x12288, .f32⟩
  | 20 => ⟨S1x12288, .f32⟩
  | 21 => ⟨S1x12288, .f32⟩
  | 22 => ⟨S1x12288, .f32⟩
  | 23 => ⟨S1x12288, .f32⟩
  | 24 => ⟨S1x12288x1, .f32⟩
  | 25 => ⟨S1x12288x1, .f32⟩
  | 26 => ⟨S1x12288x1, .f32⟩
  | 27 => ⟨S1x12288x1, .f32⟩
  | 28 => ⟨S1x12288x4, .f32⟩
  | 29 => ⟨S1x12x1x32x32, .f32⟩
  | 30 => ⟨S1x12x32x32x1, .f32⟩
  | 31 => ⟨S1x12288x1, .f32⟩
  | 32 => ⟨S1x12288x1, .f32⟩
  | 33 => ⟨S1x12288, .f32⟩
  | 34 => ⟨S1x12288x1, .f32⟩
  | 35 => ⟨S1x12288, .f32⟩
  | 36 => ⟨S1x12288x1, .f32⟩
  | 37 => ⟨S1x12288, .f32⟩
  | 38 => ⟨S1x12288x1, .f32⟩
  | 39 => ⟨S1x12288, .f32⟩
  | 40 => ⟨S_, .f32⟩
  | 41 => ⟨S1x12288, .f32⟩
  | 42 => ⟨S1x12288, .f32⟩
  | 43 => ⟨S1x12288, .f32⟩
  | 44 => ⟨S_, .f32⟩
  | 45 => ⟨S1x12288, .f32⟩
  | 46 => ⟨S1x12288, .f32⟩
  | 47 => ⟨S1x12288, .f32⟩
  | 48 => ⟨S_, .f32⟩
  | 49 => ⟨S1x12288, .f32⟩
  | 50 => ⟨S1x12288, .f32⟩
  | 51 => ⟨S1x12288, .f32⟩
  | 52 => ⟨S_, .f32⟩
  | 53 => ⟨S1x12288, .f32⟩
  | 54 => ⟨S1x12288, .f32⟩
  | 55 => ⟨S1x12288, .f32⟩
  | 56 => ⟨S1x12288x1, .f32⟩
  | 57 => ⟨S1x12288x1, .f32⟩
  | 58 => ⟨S1x12288x1, .f32⟩
  | 59 => ⟨S1x12288x1, .f32⟩
  | 60 => ⟨S1x12288x4, .f32⟩
  | 61 => ⟨S1x12288x1, .f32⟩
  | 62 => ⟨S1x12288, .f32⟩
  | 63 => ⟨S_, .f32⟩
  | 64 => ⟨S_, .f32⟩
  | 65 => ⟨S_, .f32⟩
  | 66 => ⟨S1x12288, .f32⟩
  | 67 => ⟨S1x12288, .f32⟩
  | 68 => ⟨S_, .f32⟩
  | 69 => ⟨S1x12288, .f32⟩
  | 70 => ⟨S1x12288, .f32⟩
  | 71 => ⟨S1x12288x1, .f32⟩
  | 72 => ⟨S1x12288, .f32⟩
  | 73 => ⟨S_, .f32⟩
  | 74 => ⟨S_, .f32⟩
  | 75 => ⟨S_, .f32⟩
  | 76 => ⟨S1x12288, .f32⟩
  | 77 => ⟨S1x12288, .f32⟩
  | 78 => ⟨S_, .f32⟩
  | 79 => ⟨S1x12288, .f32⟩
  | 80 => ⟨S1x12288, .f32⟩
  | 81 => ⟨S1x12288x1, .f32⟩
  | 82 => ⟨S1x12288, .f32⟩
  | 83 => ⟨S_, .f32⟩
  | 84 => ⟨S_, .f32⟩
  | 85 => ⟨S_, .f32⟩
  | 86 => ⟨S1x12288, .f32⟩
  | 87 => ⟨S1x12288, .f32⟩
  | 88 => ⟨S_, .f32⟩
  | 89 => ⟨S1x12288, .f32⟩
  | 90 => ⟨S1x12288, .f32⟩
  | 91 => ⟨S1x12288x1, .f32⟩
  | 92 => ⟨S1x12288, .f32⟩
  | 93 => ⟨S_, .f32⟩
  | 94 => ⟨S_, .f32⟩
  | 95 => ⟨S_, .f32⟩
  | 96 => ⟨S1x12288, .f32⟩
  | 97 => ⟨S1x12288, .f32⟩
  | 98 => ⟨S_, .f32⟩
  | 99 => ⟨S1x12288, .f32⟩
  | 100 => ⟨S1x12288, .f32⟩
  | 101 => ⟨S1x12288, .f32⟩
  | 102 => ⟨S1x12288, .f32⟩
  | 103 => ⟨S_, .f32⟩
  | 104 => ⟨S1x12288, .f32⟩
  | 105 => ⟨S1x12288, .i1⟩
  | 106 => ⟨S_, .f32⟩
  | 107 => ⟨S1x12288, .f32⟩
  | 108 => ⟨S1x12288, .i1⟩
  | 109 => ⟨S1x12288, .i1⟩
  | 110 => ⟨S1x12288, .f32⟩
  | 111 => ⟨S_, .f32⟩
  | 112 => ⟨S1x12288, .f32⟩
  | 113 => ⟨S1x12288, .f32⟩
  | 114 => ⟨S1x12288, .f32⟩
  | 115 => ⟨S_, .f32⟩
  | 116 => ⟨S1x12288, .f32⟩
  | 117 => ⟨S1x12288, .f32⟩
  | 118 => ⟨S1x12288x1, .f32⟩
  | 119 => ⟨S1x12288x1, .f32⟩
  | 120 => ⟨S1x12288x1, .f32⟩
  | 121 => ⟨S1x12288x1, .f32⟩
  | 122 => ⟨S1x12288x4, .f32⟩
  | 123 => ⟨S12288, .i1⟩
  | 124 => ⟨S12288, .f32⟩
  | 125 => ⟨S_, .f32⟩
  | 126 => ⟨S_, .f32⟩
  | 127 => ⟨S12288, .f32⟩
  | _ => ⟨S1x512x32x32, .f32⟩

abbrev hbmTy0_2 (i : Nat) : BufTy := match i % 128 with
  | 0 => ⟨S12288, .f32⟩
  | 1 => ⟨S12288x4, .f32⟩
  | 2 => ⟨S12288x1, .f32⟩
  | 3 => ⟨S12288, .f32⟩
  | 4 => ⟨S12288x1, .f32⟩
  | 5 => ⟨S12288, .f32⟩
  | 6 => ⟨S12288x1, .f32⟩
  | 7 => ⟨S12288, .f32⟩
  | 8 => ⟨S12288x1, .f32⟩
  | 9 => ⟨S12288, .f32⟩
  | 10 => ⟨S_, .f32⟩
  | 11 => ⟨S12288, .f32⟩
  | 12 => ⟨S12288, .f32⟩
  | 13 => ⟨S12288, .f32⟩
  | 14 => ⟨S_, .f32⟩
  | 15 => ⟨S12288, .f32⟩
  | 16 => ⟨S12288, .f32⟩
  | 17 => ⟨S12288, .f32⟩
  | 18 => ⟨S_, .f32⟩
  | 19 => ⟨S12288, .f32⟩
  | 20 => ⟨S12288, .f32⟩
  | 21 => ⟨S12288, .f32⟩
  | 22 => ⟨S_, .f32⟩
  | 23 => ⟨S12288, .f32⟩
  | 24 => ⟨S12288, .f32⟩
  | 25 => ⟨S12288, .f32⟩
  | 26 => ⟨S12288x1, .f32⟩
  | 27 => ⟨S12288x1, .f32⟩
  | 28 => ⟨S12288x1, .f32⟩
  | 29 => ⟨S12288x1, .f32⟩
  | 30 => ⟨S12288x4, .f32⟩
  | 31 => ⟨S12288x1, .f32⟩
  | 32 => ⟨S12288, .f32⟩
  | 33 => ⟨S12288x1, .f32⟩
  | 34 => ⟨S12288, .f32⟩
  | 35 => ⟨S12288x1, .f32⟩
  | 36 => ⟨S12288, .f32⟩
  | 37 => ⟨S12288x1, .f32⟩
  | 38 => ⟨S12288, .f32⟩
  | 39 => ⟨S12288, .f32⟩
  | 40 => ⟨S12288, .f32⟩
  | 41 => ⟨S12288, .f32⟩
  | 42 => ⟨S_, .i1⟩
  | 43 => ⟨S12288, .i1⟩
  | 44 => ⟨S_, .i32⟩
  | 45 => ⟨S300, .i32⟩
  | 46 => ⟨S_, .i32⟩
  | 47 => ⟨S_, .i32⟩
  | 48 => ⟨S12288, .f32⟩
  | 49 => ⟨S12288, .f32⟩
  | 50 => ⟨S12288, .f32⟩
  | 51 => ⟨S12288, .f32⟩
  | 52 => ⟨S12288, .f32⟩
  | 53 => ⟨S12288, .f32⟩
  | 54 => ⟨S_, .i32⟩
  | 55 => ⟨S_, .i32⟩
  | 56 => ⟨S12288, .i1⟩
  | 57 => ⟨S300, .i32⟩
  | 58 => ⟨S_, .i32⟩
  | 59 => ⟨S_, .i1⟩
  | 60 => ⟨S_, .i32⟩
  | 61 => ⟨S_, .i32⟩
  | 62 => ⟨S_, .f32⟩
  | 63 => ⟨S_, .f32⟩
  | 64 => ⟨S12288, .f32⟩
  | 65 => ⟨S12288, .f32⟩
  | 66 => ⟨S_, .f32⟩
  | 67 => ⟨S_, .f32⟩
  | 68 => ⟨S12288, .f32⟩
  | 69 => ⟨S12288, .i1⟩
  | 70 => ⟨S12288, .i32⟩
  | 71 => ⟨S_, .i32⟩
  | 72 => ⟨S_, .i32⟩
  | 73 => ⟨S12288, .i32⟩
  | 74 => ⟨S12288, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S1, .f32⟩
  | 83 => ⟨S_, .f32⟩
  | 84 => ⟨S_, .f32⟩
  | 85 => ⟨S_, .i1⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1, .i32⟩
  | 96 => ⟨S300, .i32⟩
  | 97 => ⟨S_, .i32⟩
  | 98 => ⟨S_, .i1⟩
  | 99 => ⟨S_, .i32⟩
  | 100 => ⟨S_, .i32⟩
  | 101 => ⟨S_, .i32⟩
  | 102 => ⟨S1, .f32⟩
  | 103 => ⟨S_, .f32⟩
  | 104 => ⟨S12288, .f32⟩
  | 105 => ⟨S12288, .f32⟩
  | 106 => ⟨S_, .i32⟩
  | 107 => ⟨S_, .i1⟩
  | 108 => ⟨S_, .i32⟩
  | 109 => ⟨S_, .i32⟩
  | 110 => ⟨S_, .i32⟩
  | 111 => ⟨S1, .f32⟩
  | 112 => ⟨S_, .f32⟩
  | 113 => ⟨S12288, .f32⟩
  | 114 => ⟨S12288, .f32⟩
  | 115 => ⟨S_, .i32⟩
  | 116 => ⟨S_, .i1⟩
  | 117 => ⟨S_, .i32⟩
  | 118 => ⟨S_, .i32⟩
  | 119 => ⟨S_, .i32⟩
  | 120 => ⟨S1, .f32⟩
  | 121 => ⟨S_, .f32⟩
  | 122 => ⟨S12288, .f32⟩
  | 123 => ⟨S12288, .f32⟩
  | 124 => ⟨S_, .i32⟩
  | 125 => ⟨S_, .i1⟩
  | 126 => ⟨S_, .i32⟩
  | 127 => ⟨S_, .i32⟩
  | _ => ⟨S1x512x32x32, .f32⟩

abbrev hbmTy0_3 (i : Nat) : BufTy := match i % 128 with
  | 0 => ⟨S_, .i32⟩
  | 1 => ⟨S1, .f32⟩
  | 2 => ⟨S_, .f32⟩
  | 3 => ⟨S12288, .f32⟩
  | 4 => ⟨S12288, .f32⟩
  | 5 => ⟨S12288, .f32⟩
  | 6 => ⟨S_, .f32⟩
  | 7 => ⟨S12288, .f32⟩
  | 8 => ⟨S12288, .f32⟩
  | 9 => ⟨S12288, .f32⟩
  | 10 => ⟨S_, .f32⟩
  | 11 => ⟨S12288, .f32⟩
  | 12 => ⟨S12288, .f32⟩
  | 13 => ⟨S12288, .f32⟩
  | 14 => ⟨S_, .i32⟩
  | 15 => ⟨S_, .i1⟩
  | 16 => ⟨S_, .i32⟩
  | 17 => ⟨S_, .i32⟩
  | 18 => ⟨S_, .i32⟩
  | 19 => ⟨S1, .f32⟩
  | 20 => ⟨S_, .f32⟩
  | 21 => ⟨S12288, .f32⟩
  | 22 => ⟨S12288, .f32⟩
  | 23 => ⟨S12288, .f32⟩
  | 24 => ⟨S_, .f32⟩
  | 25 => ⟨S12288, .f32⟩
  | 26 => ⟨S12288, .f32⟩
  | 27 => ⟨S12288, .f32⟩
  | 28 => ⟨S_, .f32⟩
  | 29 => ⟨S12288, .f32⟩
  | 30 => ⟨S12288, .i1⟩
  | 31 => ⟨S12288, .i1⟩
  | 32 => ⟨S_, .i32⟩
  | 33 => ⟨S_, .i1⟩
  | 34 => ⟨S_, .i32⟩
  | 35 => ⟨S_, .i32⟩
  | 36 => ⟨S_, .i32⟩
  | 37 => ⟨S1, .i32⟩
  | 38 => ⟨S_, .i1⟩
  | 39 => ⟨S12288, .i1⟩
  | 40 => ⟨S12288, .i1⟩
  | 41 => ⟨S_, .i32⟩
  | 42 => ⟨S_, .i32⟩
  | 43 => ⟨S_, .i32⟩
  | 44 => ⟨S300, .i32⟩
  | 45 => ⟨S300, .i32⟩
  | 46 => ⟨S_, .i32⟩
  | 47 => ⟨S300, .i32⟩
  | 48 => ⟨S300, .i1⟩
  | 49 => ⟨S300, .f32⟩
  | 50 => ⟨S12288x4, .f32⟩
  | 51 => ⟨S_, .i32⟩
  | 52 => ⟨S300, .i32⟩
  | 53 => ⟨S300, .i1⟩
  | 54 => ⟨S_, .i32⟩
  | 55 => ⟨S300, .i32⟩
  | 56 => ⟨S300, .i32⟩
  | 57 => ⟨S300, .i32⟩
  | 58 => ⟨S300x1, .i32⟩
  | 59 => ⟨S300x4, .f32⟩
  | 60 => ⟨S300x1, .f32⟩
  | 61 => ⟨S300x4, .f32⟩
  | 62 => ⟨S300x4, .f32⟩
  | _ => ⟨S1x512x32x32, .f32⟩

abbrev hbmTy (i : Nat) : BufTy := match i / 128 with
  | 0 => hbmTy0_0 i
  | 1 => hbmTy0_1 i
  | 2 => hbmTy0_2 i
  | 3 => hbmTy0_3 i
  | _ => ⟨S1x512x32x32, .f32⟩

abbrev bufTy : (tb : Table) → Fin (tcTables nBuf tb) → BufTy
  | .hbm, ⟨i, _⟩ => hbmTy i
  | _, _ => ⟨S1x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_call1_cst : Ref sig .tc := ⟨.hbm, 63, rfl⟩
abbrev main_call1_v0 : Ref sig .tc := ⟨.hbm, 64, rfl⟩
abbrev main_v52 : Ref sig .tc := ⟨.hbm, 65, rfl⟩
abbrev main_v53 : Ref sig .tc := ⟨.hbm, 66, rfl⟩
abbrev main_c_1 : Ref sig .tc := ⟨.hbm, 67, rfl⟩
abbrev main_call2_v0 : Ref sig .tc := ⟨.hbm, 68, rfl⟩
abbrev main_v54 : Ref sig .tc := ⟨.hbm, 69, rfl⟩
abbrev main_cst_2 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_3 : Ref sig .tc := ⟨.hbm, 80, rfl⟩
abbrev main_call3_v0 : Ref sig .tc := ⟨.hbm, 81, rfl⟩
abbrev main_v64 : Ref sig .tc := ⟨.hbm, 82, rfl⟩
abbrev main_cst_4 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_5 : Ref sig .tc := ⟨.hbm, 94, rfl⟩
abbrev main_v75 : Ref sig .tc := ⟨.hbm, 95, rfl⟩
abbrev main_v76 : Ref sig .tc := ⟨.hbm, 96, rfl⟩
abbrev main_cst_6 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_7 : Ref sig .tc := ⟨.hbm, 101, rfl⟩
abbrev main_v80 : Ref sig .tc := ⟨.hbm, 102, rfl⟩
abbrev main_v81 : Ref sig .tc := ⟨.hbm, 103, rfl⟩
abbrev main_cst_8 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_cst_9 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_cst_10 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_cst_11 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_cst_12 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_cst_13 : Ref sig .tc := ⟨.hbm, 191, rfl⟩
abbrev main_cst_14 : Ref sig .tc := ⟨.hbm, 192, rfl⟩
abbrev main_call4_v0 : Ref sig .tc := ⟨.hbm, 193, rfl⟩
abbrev main_call4_v1 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_15 : Ref sig .tc := ⟨.hbm, 201, rfl⟩
abbrev main_cst_16 : Ref sig .tc := ⟨.hbm, 202, rfl⟩
abbrev main_call5_v0 : Ref sig .tc := ⟨.hbm, 203, rfl⟩
abbrev main_call5_v1 : Ref sig .tc := ⟨.hbm, 204, rfl⟩
abbrev main_call5_v2 : Ref sig .tc := ⟨.hbm, 205, rfl⟩
abbrev main_call5_v3 : Ref sig .tc := ⟨.hbm, 206, rfl⟩
abbrev main_call5_v4 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_17 : Ref sig .tc := ⟨.hbm, 211, rfl⟩
abbrev main_cst_18 : Ref sig .tc := ⟨.hbm, 212, rfl⟩
abbrev main_call6_v0 : Ref sig .tc := ⟨.hbm, 213, rfl⟩
abbrev main_call6_v1 : Ref sig .tc := ⟨.hbm, 214, rfl⟩
abbrev main_call6_v2 : Ref sig .tc := ⟨.hbm, 215, rfl⟩
abbrev main_call6_v3 : Ref sig .tc := ⟨.hbm, 216, rfl⟩
abbrev main_call6_v4 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_cst_19 : Ref sig .tc := ⟨.hbm, 221, rfl⟩
abbrev main_cst_20 : Ref sig .tc := ⟨.hbm, 222, rfl⟩
abbrev main_call7_v0 : Ref sig .tc := ⟨.hbm, 223, rfl⟩
abbrev main_call7_v1 : Ref sig .tc := ⟨.hbm, 224, rfl⟩
abbrev main_call7_v2 : Ref sig .tc := ⟨.hbm, 225, rfl⟩
abbrev main_call7_v3 : Ref sig .tc := ⟨.hbm, 226, rfl⟩
abbrev main_call7_v4 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_cst_21 : Ref sig .tc := ⟨.hbm, 231, rfl⟩
abbrev main_v176 : Ref sig .tc := ⟨.hbm, 232, rfl⟩
abbrev main_v177 : Ref sig .tc := ⟨.hbm, 233, rfl⟩
abbrev main_cst_22 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_cst_23 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_cst_24 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_cst_25 : Ref sig .tc := ⟨.hbm, 253, rfl⟩
abbrev main_call8_v0 : Ref sig .tc := ⟨.hbm, 254, rfl⟩
abbrev main_call8_v1 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_v202 : Ref sig .tc := ⟨.hbm, 264, rfl⟩
abbrev main_v203 : Ref sig .tc := ⟨.hbm, 265, rfl⟩
abbrev main_cst_26 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_27 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_cst_28 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_cst_29 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_c_30 : Ref sig .tc := ⟨.hbm, 298, rfl⟩
abbrev main_v232 : Ref sig .tc := ⟨.hbm, 299, rfl⟩
abbrev main_c_31 : Ref sig .tc := ⟨.hbm, 300, rfl⟩
abbrev main_v233 : Ref sig .tc := ⟨.hbm, 301, rfl⟩
abbrev main_c_32 : Ref sig .tc := ⟨.hbm, 302, rfl⟩
abbrev main_c_33 : Ref sig .tc := ⟨.hbm, 303, rfl⟩
abbrev main_v234_0 : Ref sig .tc := ⟨.hbm, 304, rfl⟩
abbrev main_v234_1 : Ref sig .tc := ⟨.hbm, 305, rfl⟩
abbrev main_v234_2 : Ref sig .tc := ⟨.hbm, 306, rfl⟩
abbrev main_v234_3 : Ref sig .tc := ⟨.hbm, 307, rfl⟩
abbrev main_v234_4 : Ref sig .tc := ⟨.hbm, 308, rfl⟩
abbrev main_v234_5 : Ref sig .tc := ⟨.hbm, 309, rfl⟩
abbrev main_v234_6 : Ref sig .tc := ⟨.hbm, 310, rfl⟩
abbrev main_v234_7 : Ref sig .tc := ⟨.hbm, 311, rfl⟩
abbrev main_v234_8 : Ref sig .tc := ⟨.hbm, 312, rfl⟩
abbrev main_v234_9 : Ref sig .tc := ⟨.hbm, 313, rfl⟩
abbrev main_while0c_c_47 : Ref sig .tc := ⟨.hbm, 314, rfl⟩
abbrev main_while0c_v251 : Ref sig .tc := ⟨.hbm, 315, rfl⟩
abbrev main_while0b_c_47 : Ref sig .tc := ⟨.hbm, 316, rfl⟩
abbrev main_while0b_v251 : Ref sig .tc := ⟨.hbm, 317, rfl⟩
abbrev main_while0b_cst_48 : Ref sig .tc := ⟨.hbm, 318, rfl⟩
abbrev main_while0b_call9_v0 : Ref sig .tc := ⟨.hbm, 319, rfl⟩
abbrev main_while0b_call9_v1 : Ref sig .tc := ⟨.hbm, 320, rfl⟩
abbrev main_while0b_v252 : Ref sig .tc := ⟨.hbm, 321, rfl⟩
abbrev main_while0b_cst_49 : Ref sig .tc := ⟨.hbm, 322, rfl⟩
abbrev main_while0b_v253 : Ref sig .tc := ⟨.hbm, 323, rfl⟩
abbrev main_while0b_v254 : Ref sig .tc := ⟨.hbm, 324, rfl⟩
abbrev main_while0b_v255 : Ref sig .tc := ⟨.hbm, 325, rfl⟩
abbrev main_while0b_v256 : Ref sig .tc := ⟨.hbm, 326, rfl⟩
abbrev main_while0b_c_50 : Ref sig .tc := ⟨.hbm, 327, rfl⟩
abbrev main_while0b_call10_v0 : Ref sig .tc := ⟨.hbm, 328, rfl⟩
abbrev main_while0b_call10_v1 : Ref sig .tc := ⟨.hbm, 329, rfl⟩
abbrev main_while0b_v257 : Ref sig .tc := ⟨.hbm, 330, rfl⟩
abbrev main_while0b_c_51 : Ref sig .tc := ⟨.hbm, 331, rfl⟩
abbrev main_while0b_v258 : Ref sig .tc := ⟨.hbm, 332, rfl⟩
abbrev main_while0b_c_52 : Ref sig .tc := ⟨.hbm, 333, rfl⟩
abbrev main_while0b_v259 : Ref sig .tc := ⟨.hbm, 334, rfl⟩
abbrev main_while0b_c_53 : Ref sig .tc := ⟨.hbm, 335, rfl⟩
abbrev main_while0b_v260 : Ref sig .tc := ⟨.hbm, 336, rfl⟩
abbrev main_while0b_v261 : Ref sig .tc := ⟨.hbm, 337, rfl⟩
abbrev main_while0b_v262 : Ref sig .tc := ⟨.hbm, 338, rfl⟩
abbrev main_while0b_v263 : Ref sig .tc := ⟨.hbm, 339, rfl⟩
abbrev main_while0b_cst_54 : Ref sig .tc := ⟨.hbm, 340, rfl⟩
abbrev main_while0b_v264 : Ref sig .tc := ⟨.hbm, 341, rfl⟩
abbrev main_while0b_c_55 : Ref sig .tc := ⟨.hbm, 342, rfl⟩
abbrev main_while0b_call11_v0 : Ref sig .tc := ⟨.hbm, 343, rfl⟩
abbrev main_while0b_v265 : Ref sig .tc := ⟨.hbm, 344, rfl⟩
abbrev main_while0b_c_56 : Ref sig .tc := ⟨.hbm, 345, rfl⟩
abbrev main_while0b_v266 : Ref sig .tc := ⟨.hbm, 346, rfl⟩
abbrev main_while0b_c_57 : Ref sig .tc := ⟨.hbm, 347, rfl⟩
abbrev main_while0b_v267 : Ref sig .tc := ⟨.hbm, 348, rfl⟩
abbrev main_while0b_v268 : Ref sig .tc := ⟨.hbm, 349, rfl⟩
abbrev main_while0b_v269 : Ref sig .tc := ⟨.hbm, 350, rfl⟩
abbrev main_while0b_v270 : Ref sig .tc := ⟨.hbm, 351, rfl⟩
abbrev main_while0b_v271 : Ref sig .tc := ⟨.hbm, 352, rfl⟩
abbrev main_while0b_c_58 : Ref sig .tc := ⟨.hbm, 353, rfl⟩
abbrev main_while0b_v272 : Ref sig .tc := ⟨.hbm, 354, rfl⟩
abbrev main_while0b_c_59 : Ref sig .tc := ⟨.hbm, 355, rfl⟩
abbrev main_while0b_v273 : Ref sig .tc := ⟨.hbm, 356, rfl⟩
abbrev main_while0b_v274 : Ref sig .tc := ⟨.hbm, 357, rfl⟩
abbrev main_while0b_v275 : Ref sig .tc := ⟨.hbm, 358, rfl⟩
abbrev main_while0b_v276 : Ref sig .tc := ⟨.hbm, 359, rfl⟩
abbrev main_while0b_v277 : Ref sig .tc := ⟨.hbm, 360, rfl⟩
abbrev main_while0b_v278 : Ref sig .tc := ⟨.hbm, 361, rfl⟩
abbrev main_while0b_c_60 : Ref sig .tc := ⟨.hbm, 362, rfl⟩
abbrev main_while0b_v279 : Ref sig .tc := ⟨.hbm, 363, rfl⟩
abbrev main_while0b_c_61 : Ref sig .tc := ⟨.hbm, 364, rfl⟩
abbrev main_while0b_v280 : Ref sig .tc := ⟨.hbm, 365, rfl⟩
abbrev main_while0b_v281 : Ref sig .tc := ⟨.hbm, 366, rfl⟩
abbrev main_while0b_v282 : Ref sig .tc := ⟨.hbm, 367, rfl⟩
abbrev main_while0b_v283 : Ref sig .tc := ⟨.hbm, 368, rfl⟩
abbrev main_while0b_v284 : Ref sig .tc := ⟨.hbm, 369, rfl⟩
abbrev main_while0b_v285 : Ref sig .tc := ⟨.hbm, 370, rfl⟩
abbrev main_while0b_c_62 : Ref sig .tc := ⟨.hbm, 371, rfl⟩
abbrev main_while0b_v286 : Ref sig .tc := ⟨.hbm, 372, rfl⟩
abbrev main_while0b_c_63 : Ref sig .tc := ⟨.hbm, 373, rfl⟩
abbrev main_while0b_v287 : Ref sig .tc := ⟨.hbm, 374, rfl⟩
abbrev main_while0b_v288 : Ref sig .tc := ⟨.hbm, 375, rfl⟩
abbrev main_while0b_v289 : Ref sig .tc := ⟨.hbm, 376, rfl⟩
abbrev main_while0b_v290 : Ref sig .tc := ⟨.hbm, 377, rfl⟩
abbrev main_while0b_v291 : Ref sig .tc := ⟨.hbm, 378, rfl⟩
abbrev main_while0b_v292 : Ref sig .tc := ⟨.hbm, 379, rfl⟩
abbrev main_while0b_c_64 : Ref sig .tc := ⟨.hbm, 380, rfl⟩
abbrev main_while0b_v293 : Ref sig .tc := ⟨.hbm, 381, rfl⟩
abbrev main_while0b_c_65 : Ref sig .tc := ⟨.hbm, 382, rfl⟩
abbrev main_while0b_v294 : Ref sig .tc := ⟨.hbm, 383, rfl⟩
abbrev main_while0b_v295 : Ref sig .tc := ⟨.hbm, 384, rfl⟩
abbrev main_while0b_v296 : Ref sig .tc := ⟨.hbm, 385, rfl⟩
abbrev main_while0b_v297 : Ref sig .tc := ⟨.hbm, 386, rfl⟩
abbrev main_while0b_v298 : Ref sig .tc := ⟨.hbm, 387, rfl⟩
abbrev main_while0b_v299 : Ref sig .tc := ⟨.hbm, 388, rfl⟩
abbrev main_while0b_v300 : Ref sig .tc := ⟨.hbm, 389, rfl⟩
abbrev main_while0b_cst_66 : Ref sig .tc := ⟨.hbm, 390, rfl⟩
abbrev main_while0b_v301 : Ref sig .tc := ⟨.hbm, 391, rfl⟩
abbrev main_while0b_v302 : Ref sig .tc := ⟨.hbm, 392, rfl⟩
abbrev main_while0b_v303 : Ref sig .tc := ⟨.hbm, 393, rfl⟩
abbrev main_while0b_cst_67 : Ref sig .tc := ⟨.hbm, 394, rfl⟩
abbrev main_while0b_v304 : Ref sig .tc := ⟨.hbm, 395, rfl⟩
abbrev main_while0b_v305 : Ref sig .tc := ⟨.hbm, 396, rfl⟩
abbrev main_while0b_v306 : Ref sig .tc := ⟨.hbm, 397, rfl⟩
abbrev main_while0b_c_68 : Ref sig .tc := ⟨.hbm, 398, rfl⟩
abbrev main_while0b_v307 : Ref sig .tc := ⟨.hbm, 399, rfl⟩
abbrev main_while0b_c_69 : Ref sig .tc := ⟨.hbm, 400, rfl⟩
abbrev main_while0b_v308 : Ref sig .tc := ⟨.hbm, 401, rfl⟩
abbrev main_while0b_v309 : Ref sig .tc := ⟨.hbm, 402, rfl⟩
abbrev main_while0b_v310 : Ref sig .tc := ⟨.hbm, 403, rfl⟩
abbrev main_while0b_v311 : Ref sig .tc := ⟨.hbm, 404, rfl⟩
abbrev main_while0b_v312 : Ref sig .tc := ⟨.hbm, 405, rfl⟩
abbrev main_while0b_v313 : Ref sig .tc := ⟨.hbm, 406, rfl⟩
abbrev main_while0b_v314 : Ref sig .tc := ⟨.hbm, 407, rfl⟩
abbrev main_while0b_cst_70 : Ref sig .tc := ⟨.hbm, 408, rfl⟩
abbrev main_while0b_v315 : Ref sig .tc := ⟨.hbm, 409, rfl⟩
abbrev main_while0b_v316 : Ref sig .tc := ⟨.hbm, 410, rfl⟩
abbrev main_while0b_v317 : Ref sig .tc := ⟨.hbm, 411, rfl⟩
abbrev main_while0b_cst_71 : Ref sig .tc := ⟨.hbm, 412, rfl⟩
abbrev main_while0b_v318 : Ref sig .tc := ⟨.hbm, 413, rfl⟩
abbrev main_while0b_v319 : Ref sig .tc := ⟨.hbm, 414, rfl⟩
abbrev main_while0b_v320 : Ref sig .tc := ⟨.hbm, 415, rfl⟩
abbrev main_while0b_c_72 : Ref sig .tc := ⟨.hbm, 416, rfl⟩
abbrev main_while0b_v321 : Ref sig .tc := ⟨.hbm, 417, rfl⟩
abbrev main_while0b_c_73 : Ref sig .tc := ⟨.hbm, 418, rfl⟩
abbrev main_while0b_v322 : Ref sig .tc := ⟨.hbm, 419, rfl⟩
abbrev main_while0b_v323 : Ref sig .tc := ⟨.hbm, 420, rfl⟩
abbrev main_while0b_v324 : Ref sig .tc := ⟨.hbm, 421, rfl⟩
abbrev main_while0b_c_74 : Ref sig .tc := ⟨.hbm, 422, rfl⟩
abbrev main_while0b_v325 : Ref sig .tc := ⟨.hbm, 423, rfl⟩
abbrev main_while0b_v326 : Ref sig .tc := ⟨.hbm, 424, rfl⟩
abbrev main_while0b_c_75 : Ref sig .tc := ⟨.hbm, 425, rfl⟩
abbrev main_while0b_v327 : Ref sig .tc := ⟨.hbm, 426, rfl⟩
abbrev main_c_34 : Ref sig .tc := ⟨.hbm, 427, rfl⟩
abbrev main_v235 : Ref sig .tc := ⟨.hbm, 428, rfl⟩
abbrev main_v236 : Ref sig .tc := ⟨.hbm, 429, rfl⟩
abbrev main_c_35 : Ref sig .tc := ⟨.hbm, 430, rfl⟩
abbrev main_v237 : Ref sig .tc := ⟨.hbm, 431, rfl⟩
abbrev main_v238 : Ref sig .tc := ⟨.hbm, 432, rfl⟩
abbrev main_v239 : Ref sig .tc := ⟨.hbm, 433, rfl⟩
abbrev main_v240 : Ref sig .tc := ⟨.hbm, 434, rfl⟩
abbrev main_c_36 : Ref sig .tc := ⟨.hbm, 435, rfl⟩
abbrev main_v241 : Ref sig .tc := ⟨.hbm, 436, rfl⟩
abbrev main_v242 : Ref sig .tc := ⟨.hbm, 437, rfl⟩
abbrev main_c_37 : Ref sig .tc := ⟨.hbm, 438, rfl⟩
abbrev main_v243 : Ref sig .tc := ⟨.hbm, 439, rfl⟩
abbrev main_v244 : Ref sig .tc := ⟨.hbm, 440, rfl⟩
abbrev main_v245 : Ref sig .tc := ⟨.hbm, 441, rfl⟩
abbrev main_v246 : Ref sig .tc := ⟨.hbm, 442, rfl⟩
abbrev main_v247 : Ref sig .tc := ⟨.hbm, 443, rfl⟩
abbrev main_v248 : Ref sig .tc := ⟨.hbm, 444, rfl⟩
abbrev main_v249 : Ref sig .tc := ⟨.hbm, 445, rfl⟩
abbrev main_v250 : Ref sig .tc := ⟨.hbm, 446, rfl⟩

abbrev nD : Nat := 1
abbrev τ : Topo := Topo.v7x

variable {F : FTy → Type} [FloatOps F]

abbrev main_while0_count : Scf.Loop 32 := ⟨0#32, 300#32, 1#32⟩
-- ==== Kernel2.lean ====
abbrev S1x512x32x32 : Shape := ⟨4, ![1, 512, 32, 32]⟩
abbrev S300x4 : Shape := ⟨2, ![300, 4]⟩
abbrev S300 : Shape := ⟨1, ![300]⟩
abbrev S512x32x32 : Shape := ⟨3, ![512, 32, 32]⟩
abbrev S32x32x512 : Shape := ⟨3, ![32, 32, 512]⟩
abbrev S1024x512 : Shape := ⟨2, ![1024, 512]⟩
abbrev S300x1 : Shape := ⟨2, ![300, 1]⟩
abbrev S_ : Shape := ⟨0, ![]⟩
abbrev S6 : Shape := ⟨1, ![6]⟩
abbrev S1 : Shape := ⟨1, ![1]⟩
abbrev S7 : Shape := ⟨1, ![7]⟩
abbrev S1x7 : Shape := ⟨2, ![1, 7]⟩
abbrev S300x7 : Shape := ⟨2, ![300, 7]⟩
abbrev S300x7x1 : Shape := ⟨3, ![300, 7, 1]⟩
abbrev S300x7x7 : Shape := ⟨3, ![300, 7, 7]⟩
abbrev S14700 : Shape := ⟨1, ![14700]⟩
abbrev S300x1x7 : Shape := ⟨3, ![300, 1, 7]⟩
abbrev S300x1x1 : Shape := ⟨3, ![300, 1, 1]⟩
abbrev S14720 : Shape := ⟨1, ![14720]⟩
abbrev S14720x1 : Shape := ⟨2, ![14720, 1]⟩
abbrev S1024 : Shape := ⟨1, ![1024]⟩
abbrev S1x1024 : Shape := ⟨2, ![1, 1024]⟩
abbrev S14720x512 : Shape := ⟨2, ![14720, 512]⟩
abbrev S1472x1 : Shape := ⟨2, ![1472, 1]⟩
abbrev S1472x512 : Shape := ⟨2, ![1472, 512]⟩
abbrev S1472x1024 : Shape := ⟨2, ![1472, 1024]⟩
abbrev S14700x512 : Shape := ⟨2, ![14700, 512]⟩
abbrev S300x7x7x512 : Shape := ⟨4, ![300, 7, 7, 512]⟩
abbrev S300x512x7x7 : Shape := ⟨4, ![300, 512, 7, 7]⟩

abbrev nBuf : Space → Nat
  | .hbm => 203
  | .vmem => 11
  | .smem => 0
  | _ => 0

abbrev hbmTy0_0 (i : Nat) : BufTy := match i % 128 with
  | 0 => ⟨S1x512x32x32, .f32⟩
  | 1 => ⟨S300x4, .f32⟩
  | 2 => ⟨S300, .f32⟩
  | 3 => ⟨S512x32x32, .f32⟩
  | 4 => ⟨S32x32x512, .f32⟩
  | 5 => ⟨S1024x512, .f32⟩
  | 6 => ⟨S300x1, .f32⟩
  | 7 => ⟨S300, .f32⟩
  | 8 => ⟨S300x1, .f32⟩
  | 9 => ⟨S300, .f32⟩
  | 10 => ⟨S_, .f32⟩
  | 11 => ⟨S300, .f32⟩
  | 12 => ⟨S300, .f32⟩
  | 13 => ⟨S300, .f32⟩
  | 14 => ⟨S300x1, .f32⟩
  | 15 => ⟨S300, .f32⟩
  | 16 => ⟨S300x1, .f32⟩
  | 17 => ⟨S300, .f32⟩
  | 18 => ⟨S_, .f32⟩
  | 19 => ⟨S300, .f32⟩
  | 20 => ⟨S300, .f32⟩
  | 21 => ⟨S300, .f32⟩
  | 22 => ⟨S300x1, .f32⟩
  | 23 => ⟨S300, .f32⟩
  | 24 => ⟨S300x1, .f32⟩
  | 25 => ⟨S300, .f32⟩
  | 26 => ⟨S_, .f32⟩
  | 27 => ⟨S300, .f32⟩
  | 28 => ⟨S300, .f32⟩
  | 29 => ⟨S300, .f32⟩
  | 30 => ⟨S300x1, .f32⟩
  | 31 => ⟨S300, .f32⟩
  | 32 => ⟨S300x1, .f32⟩
  | 33 => ⟨S300, .f32⟩
  | 34 => ⟨S_, .f32⟩
  | 35 => ⟨S300, .f32⟩
  | 36 => ⟨S300, .f32⟩
  | 37 => ⟨S300, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S6, .f32⟩
  | 46 => ⟨S_, .f32⟩
  | 47 => ⟨S6, .f32⟩
  | 48 => ⟨S6, .f32⟩
  | 49 => ⟨S1, .f32⟩
  | 50 => ⟨S_, .f32⟩
  | 51 => ⟨S6, .f32⟩
  | 52 => ⟨S6, .f32⟩
  | 53 => ⟨S6, .f32⟩
  | 54 => ⟨S6, .f32⟩
  | 55 => ⟨S1, .f32⟩
  | 56 => ⟨S6, .f32⟩
  | 57 => ⟨S6, .f32⟩
  | 58 => ⟨S6, .f32⟩
  | 59 => ⟨S1, .f32⟩
  | 60 => ⟨S7, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S6, .f32⟩
  | 69 => ⟨S_, .f32⟩
  | 70 => ⟨S6, .f32⟩
  | 71 => ⟨S6, .f32⟩
  | 72 => ⟨S1, .f32⟩
  | 73 => ⟨S_, .f32⟩
  | 74 => ⟨S6, .f32⟩
  | 75 => ⟨S6, .f32⟩
  | 76 => ⟨S6, .f32⟩
  | 77 => ⟨S6, .f32⟩
  | 78 => ⟨S1, .f32⟩
  | 79 => ⟨S6, .f32⟩
  | 80 => ⟨S6, .f32⟩
  | 81 => ⟨S6, .f32⟩
  | 82 => ⟨S1, .f32⟩
  | 83 => ⟨S7, .f32⟩
  | 84 => ⟨S300x1, .f32⟩
  | 85 => ⟨S300, .f32⟩
  | 86 => ⟨S300x1, .f32⟩
  | 87 => ⟨S1x7, .f32⟩
  | 88 => ⟨S300x7, .f32⟩
  | 89 => ⟨S300x7, .f32⟩
  | 90 => ⟨S300x7, .f32⟩
  | 91 => ⟨S300x7, .f32⟩
  | 92 => ⟨S300x7, .f32⟩
  | 93 => ⟨S300x1, .f32⟩
  | 94 => ⟨S300, .f32⟩
  | 95 => ⟨S300x1, .f32⟩
  | 96 => ⟨S1x7, .f32⟩
  | 97 => ⟨S300x7, .f32⟩
  | 98 => ⟨S300x7, .f32⟩
  | 99 => ⟨S300x7, .f32⟩
  | 100 => ⟨S300x7, .f32⟩
  | 101 => ⟨S300x7, .f32⟩
  | 102 => ⟨S_, .f32⟩
  | 103 => ⟨S300x7, .f32⟩
  | 104 => ⟨S300x7, .f32⟩
  | 105 => ⟨S_, .f32⟩
  | 106 => ⟨S300x7, .f32⟩
  | 107 => ⟨S300x7, .f32⟩
  | 108 => ⟨S_, .f32⟩
  | 109 => ⟨S_, .f32⟩
  | 110 => ⟨S_, .f32⟩
  | 111 => ⟨S300x7, .f32⟩
  | 112 => ⟨S300x7, .f32⟩
  | 113 => ⟨S_, .f32⟩
  | 114 => ⟨S300x7, .f32⟩
  | 115 => ⟨S300x7, .f32⟩
  | 116 => ⟨S_, .f32⟩
  | 117 => ⟨S300x7, .f32⟩
  | 118 => ⟨S300x7, .f32⟩
  | 119 => ⟨S_, .f32⟩
  | 120 => ⟨S300x7, .f32⟩
  | 121 => ⟨S300x7, .f32⟩
  | 122 => ⟨S_, .f32⟩
  | 123 => ⟨S_, .f32⟩
  | 124 => ⟨S_, .f32⟩
  | 125 => ⟨S300x7, .f32⟩
  | 126 => ⟨S300x7, .f32⟩
  | 127 => ⟨S_, .f32⟩
  | _ => ⟨S1x512x32x32, .f32⟩

abbrev hbmTy0_1 (i : Nat) : BufTy := match i % 128 with
  | 0 => ⟨S300x7, .f32⟩
  | 1 => ⟨S300x7, .f32⟩
  | 2 => ⟨S300x7x1, .f32⟩
  | 3 => ⟨S300x7x7, .f32⟩
  | 4 => ⟨S14700, .f32⟩
  | 5 => ⟨S300x1x7, .f32⟩
  | 6 => ⟨S300x7x7, .f32⟩
  | 7 => ⟨S14700, .f32⟩
  | 8 => ⟨S300x1x1, .f32⟩
  | 9 => ⟨S300x7x7, .f32⟩
  | 10 => ⟨S14700, .f32⟩
  | 11 => ⟨S_, .i32⟩
  | 12 => ⟨S_, .f32⟩
  | 13 => ⟨S14720, .f32⟩
  | 14 => ⟨S14720x1, .f32⟩
  | 15 => ⟨S_, .i32⟩
  | 16 => ⟨S_, .f32⟩
  | 17 => ⟨S14720, .f32⟩
  | 18 => ⟨S14720x1, .f32⟩
  | 19 => ⟨S_, .i32⟩
  | 20 => ⟨S_, .f32⟩
  | 21 => ⟨S14720, .f32⟩
  | 22 => ⟨S14720x1, .f32⟩
  | 23 => ⟨S1024, .f32⟩
  | 24 => ⟨S_, .i32⟩
  | 25 => ⟨S_, .f32⟩
  | 26 => ⟨S1024, .f32⟩
  | 27 => ⟨S1024, .f32⟩
  | 28 => ⟨S_, .f32⟩
  | 29 => ⟨S1024, .f32⟩
  | 30 => ⟨S1024, .i1⟩
  | 31 => ⟨S_, .f32⟩
  | 32 => ⟨S1024, .f32⟩
  | 33 => ⟨S1024, .i1⟩
  | 34 => ⟨S_, .f32⟩
  | 35 => ⟨S_, .i1⟩
  | 36 => ⟨S1024, .i1⟩
  | 37 => ⟨S1024, .i1⟩
  | 38 => ⟨S1024, .i1⟩
  | 39 => ⟨S1024, .f32⟩
  | 40 => ⟨S1024, .f32⟩
  | 41 => ⟨S1024, .f32⟩
  | 42 => ⟨S1x1024, .f32⟩
  | 43 => ⟨S1024, .f32⟩
  | 44 => ⟨S_, .i32⟩
  | 45 => ⟨S_, .f32⟩
  | 46 => ⟨S1024, .f32⟩
  | 47 => ⟨S1024, .f32⟩
  | 48 => ⟨S_, .f32⟩
  | 49 => ⟨S_, .i1⟩
  | 50 => ⟨S1024, .f32⟩
  | 51 => ⟨S1024, .f32⟩
  | 52 => ⟨S1024, .f32⟩
  | 53 => ⟨S1024, .f32⟩
  | 54 => ⟨S_, .f32⟩
  | 55 => ⟨S1024, .f32⟩
  | 56 => ⟨S1024, .i1⟩
  | 57 => ⟨S_, .f32⟩
  | 58 => ⟨S1024, .f32⟩
  | 59 => ⟨S1024, .f32⟩
  | 60 => ⟨S1024, .i1⟩
  | 61 => ⟨S1024, .i1⟩
  | 62 => ⟨S1024, .f32⟩
  | 63 => ⟨S1024, .f32⟩
  | 64 => ⟨S1024, .f32⟩
  | 65 => ⟨S_, .f32⟩
  | 66 => ⟨S1024, .f32⟩
  | 67 => ⟨S1024, .f32⟩
  | 68 => ⟨S1024, .f32⟩
  | 69 => ⟨S1024, .f32⟩
  | 70 => ⟨S1x1024, .f32⟩
  | 71 => ⟨S14720x512, .f32⟩
  | 72 => ⟨S14700x512, .f32⟩
  | 73 => ⟨S300x7x7x512, .f32⟩
  | 74 => ⟨S300x512x7x7, .f32⟩
  | _ => ⟨S1x512x32x32, .f32⟩

abbrev hbmTy (i : Nat) : BufTy := match i / 128 with
  | 0 => hbmTy0_0 i
  | 1 => hbmTy0_1 i
  | _ => ⟨S1x512x32x32, .f32⟩

abbrev bufTy : (tb : Table) → Fin (tcTables nBuf tb) → BufTy
  | .hbm, ⟨i, _⟩ => hbmTy i
  | .local _ .vmem, ⟨0, _⟩ => ⟨S1472x1, .f32⟩
  | .local _ .vmem, ⟨1, _⟩ => ⟨S1472x1, .f32⟩
  | .local _ .vmem, ⟨2, _⟩ => ⟨S1472x1, .f32⟩
  | .local _ .vmem, ⟨3, _⟩ => ⟨S1472x1, .f32⟩
  | .local _ .vmem, ⟨4, _⟩ => ⟨S1472x1, .f32⟩
  | .local _ .vmem, ⟨5, _⟩ => ⟨S1472x1, .f32⟩
  | .local _ .vmem, ⟨6, _⟩ => ⟨S1024x512, .f32⟩
  | .local _ .vmem, ⟨7, _⟩ => ⟨S1x1024, .f32⟩
  | .local _ .vmem, ⟨8, _⟩ => ⟨S1x1024, .f32⟩
  | .local _ .vmem, ⟨9, _⟩ => ⟨S1472x512, .f32⟩
  | .local _ .vmem, ⟨10, _⟩ => ⟨S1472x512, .f32⟩
  | _, _ => ⟨S1x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_cst : Ref sig .tc := ⟨.hbm, 43, rfl⟩
abbrev main_call0_v3 : Ref sig .tc := ⟨.hbm, 44, rfl⟩
abbrev main_call0_v4 : Ref sig .tc := ⟨.hbm, 45, rfl⟩
abbrev main_call0_cst_0 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_v15 : Ref sig .tc := ⟨.hbm, 58, rfl⟩
abbrev main_call0_v16 : Ref sig .tc := ⟨.hbm, 59, rfl⟩
abbrev main_v31 : Ref sig .tc := ⟨.hbm, 60, rfl⟩
abbrev main_cst_5 : Ref sig .tc := ⟨.hbm, 61, rfl⟩
abbrev main_cst_6 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_cst : Ref sig .tc := ⟨.hbm, 66, rfl⟩
abbrev main_call1_v3 : Ref sig .tc := ⟨.hbm, 67, rfl⟩
abbrev main_call1_v4 : Ref sig .tc := ⟨.hbm, 68, rfl⟩
abbrev main_call1_cst_0 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_cst_1 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_v15 : Ref sig .tc := ⟨.hbm, 81, rfl⟩
abbrev main_call1_v16 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_7 : Ref sig .tc := ⟨.hbm, 102, rfl⟩
abbrev main_v51 : Ref sig .tc := ⟨.hbm, 103, rfl⟩
abbrev main_v52 : Ref sig .tc := ⟨.hbm, 104, rfl⟩
abbrev main_cst_8 : Ref sig .tc := ⟨.hbm, 105, rfl⟩
abbrev main_v53 : Ref sig .tc := ⟨.hbm, 106, rfl⟩
abbrev main_v54 : Ref sig .tc := ⟨.hbm, 107, rfl⟩
abbrev main_cst_9 : Ref sig .tc := ⟨.hbm, 108, rfl⟩
abbrev main_cst_10 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_v55 : Ref sig .tc := ⟨.hbm, 115, rfl⟩
abbrev main_cst_11 : Ref sig .tc := ⟨.hbm, 116, rfl⟩
abbrev main_v56 : Ref sig .tc := ⟨.hbm, 117, rfl⟩
abbrev main_v57 : Ref sig .tc := ⟨.hbm, 118, rfl⟩
abbrev main_cst_12 : Ref sig .tc := ⟨.hbm, 119, rfl⟩
abbrev main_v58 : Ref sig .tc := ⟨.hbm, 120, rfl⟩
abbrev main_v59 : Ref sig .tc := ⟨.hbm, 121, rfl⟩
abbrev main_cst_13 : Ref sig .tc := ⟨.hbm, 122, rfl⟩
abbrev main_cst_14 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_c : Ref sig .tc := ⟨.hbm, 139, rfl⟩
abbrev main_call4_v0 : Ref sig .tc := ⟨.hbm, 140, rfl⟩
abbrev main_v70 : Ref sig .tc := ⟨.hbm, 141, rfl⟩
abbrev main_v71 : Ref sig .tc := ⟨.hbm, 142, rfl⟩
abbrev main_c_15 : Ref sig .tc := ⟨.hbm, 143, rfl⟩
abbrev main_call5_v0 : Ref sig .tc := ⟨.hbm, 144, rfl⟩
abbrev main_v72 : Ref sig .tc := ⟨.hbm, 145, rfl⟩
abbrev main_v73 : Ref sig .tc := ⟨.hbm, 146, rfl⟩
abbrev main_c_16 : Ref sig .tc := ⟨.hbm, 147, rfl⟩
abbrev main_call6_v0 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_c_17 : Ref sig .tc := ⟨.hbm, 152, rfl⟩
abbrev main_call7_v0 : Ref sig .tc := ⟨.hbm, 153, rfl⟩
abbrev main_call7_v1 : Ref sig .tc := ⟨.hbm, 154, rfl⟩
abbrev main_call7_v2 : Ref sig .tc := ⟨.hbm, 155, rfl⟩
abbrev main_call7_cst : Ref sig .tc := ⟨.hbm, 156, rfl⟩
abbrev main_call7_v3 : Ref sig .tc := ⟨.hbm, 157, rfl⟩
abbrev main_call7_v4 : Ref sig .tc := ⟨.hbm, 158, rfl⟩
abbrev main_call7_cst_0 : Ref sig .tc := ⟨.hbm, 159, rfl⟩
abbrev main_call7_v5 : Ref sig .tc := ⟨.hbm, 160, rfl⟩
abbrev main_call7_v6 : Ref sig .tc := ⟨.hbm, 161, rfl⟩
abbrev main_call7_cst_1 : Ref sig .tc := ⟨.hbm, 162, rfl⟩
abbrev main_call7_v7 : Ref sig .tc := ⟨.hbm, 163, rfl⟩
abbrev main_call7_v8 : Ref sig .tc := ⟨.hbm, 164, rfl⟩
abbrev main_call7_v9 : Ref sig .tc := ⟨.hbm, 165, rfl⟩
abbrev main_call7_v10 : Ref sig .tc := ⟨.hbm, 166, rfl⟩
abbrev main_call7_v11 : Ref sig .tc := ⟨.hbm, 167, rfl⟩
abbrev main_call7_v12 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_c_18 : Ref sig .tc := ⟨.hbm, 172, rfl⟩
abbrev main_call8_v0 : Ref sig .tc := ⟨.hbm, 173, rfl⟩
abbrev main_call8_v1 : Ref sig .tc := ⟨.hbm, 174, rfl⟩
abbrev main_call8_v2 : Ref sig .tc := ⟨.hbm, 175, rfl⟩
abbrev main_call8_cst : Ref sig .tc := ⟨.hbm, 176, rfl⟩
abbrev main_call8_v3 : Ref sig .tc := ⟨.hbm, 177, rfl⟩
abbrev main_call8_v4 : Ref sig .tc := ⟨.hbm, 178, rfl⟩
abbrev main_call8_v5 : Ref sig .tc := ⟨.hbm, 179, rfl⟩
abbrev main_call8_v6 : Ref sig .tc := ⟨.hbm, 180, rfl⟩
abbrev main_call8_v7 : Ref sig .tc := ⟨.hbm, 181, rfl⟩
abbrev main_call8_cst_0 : Ref sig .tc := ⟨.hbm, 182, rfl⟩
abbrev main_call8_v8 : Ref sig .tc := ⟨.hbm, 183, rfl⟩
abbrev main_call8_v9 : Ref sig .tc := ⟨.hbm, 184, rfl⟩
abbrev main_call8_v10 : Ref sig .tc := ⟨.hbm, 185, rfl⟩
abbrev main_call8_v11 : Ref sig .tc := ⟨.hbm, 186, rfl⟩
abbrev main_call8_v12 : Ref sig .tc := ⟨.hbm, 187, rfl⟩
abbrev main_call8_v13 : Ref sig .tc := ⟨.hbm, 188, rfl⟩
abbrev main_call8_v14 : Ref sig .tc := ⟨.hbm, 189, rfl⟩
abbrev main_call8_v15 : Ref sig .tc := ⟨.hbm, 190, rfl⟩
abbrev main_call8_v16 : Ref sig .tc := ⟨.hbm, 191, rfl⟩
abbrev main_call8_v17 : Ref sig .tc := ⟨.hbm, 192, rfl⟩
abbrev main_call8_cst_1 : Ref sig .tc := ⟨.hbm, 193, rfl⟩
abbrev main_call8_v18 : Ref sig .tc := ⟨.hbm, 194, rfl⟩
abbrev main_call8_v19 : Ref sig .tc := ⟨.hbm, 195, rfl⟩
abbrev main_call8_v20 : Ref sig .tc := ⟨.hbm, 196, rfl⟩
abbrev main_v80 : Ref sig .tc := ⟨.hbm, 197, rfl⟩
abbrev main_v81 : Ref sig .tc := ⟨.hbm, 198, rfl⟩
abbrev main_v82 : Ref sig .tc := ⟨.hbm, 199, rfl⟩
abbrev main_v83 : Ref sig .tc := ⟨.hbm, 200, rfl⟩
abbrev main_v84 : Ref sig .tc := ⟨.hbm, 201, rfl⟩
abbrev main_v85 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1472x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1472x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1472x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1472x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S1x512x32x32 : Shape := ⟨4, ![1, 512, 32, 32]⟩
abbrev S300x4 : Shape := ⟨2, ![300, 4]⟩
abbrev S300 : Shape := ⟨1, ![300]⟩
abbrev S512x32x32 : Shape := ⟨3, ![512, 32, 32]⟩
abbrev S300x1 : Shape := ⟨2, ![300, 1]⟩
abbrev S_ : Shape := ⟨0, ![]⟩
abbrev S6 : Shape := ⟨1, ![6]⟩
abbrev S1 : Shape := ⟨1, ![1]⟩
abbrev S7 : Shape := ⟨1, ![7]⟩
abbrev S1x7 : Shape := ⟨2, ![1, 7]⟩
abbrev S300x7 : Shape := ⟨2, ![300, 7]⟩
abbrev S300x7x1 : Shape := ⟨3, ![300, 7, 1]⟩
abbrev S300x1x7 : Shape := ⟨3, ![300, 1, 7]⟩
abbrev S300x7x7 : Shape := ⟨3, ![300, 7, 7]⟩
abbrev S300x7x7x1 : Shape := ⟨4, ![300, 7, 7, 1]⟩
abbrev S300x7x7x2 : Shape := ⟨4, ![300, 7, 7, 2]⟩
abbrev S512x300x7x7 : Shape := ⟨4, ![512, 300, 7, 7]⟩
abbrev S1x300x7x1 : Shape := ⟨4, ![1, 300, 7, 1]⟩
abbrev S1x300x1x7 : Shape := ⟨4, ![1, 300, 1, 7]⟩
abbrev S300x512x7x7 : Shape := ⟨4, ![300, 512, 7, 7]⟩
abbrev S300x1x1x1 : Shape := ⟨4, ![300, 1, 1, 1]⟩

abbrev nBuf : Space → Nat
  | .hbm => 303
  | .vmem => 0
  | .smem => 0
  | _ => 0

abbrev hbmTy0_0 (i : Nat) : BufTy := match i % 128 with
  | 0 => ⟨S1x512x32x32, .f32⟩
  | 1 => ⟨S300x4, .f32⟩
  | 2 => ⟨S300, .f32⟩
  | 3 => ⟨S512x32x32, .f32⟩
  | 4 => ⟨S300x1, .f32⟩
  | 5 => ⟨S300, .f32⟩
  | 6 => ⟨S300x1, .f32⟩
  | 7 => ⟨S300, .f32⟩
  | 8 => ⟨S_, .f32⟩
  | 9 => ⟨S300, .f32⟩
  | 10 => ⟨S300, .f32⟩
  | 11 => ⟨S300, .f32⟩
  | 12 => ⟨S300x1, .f32⟩
  | 13 => ⟨S300, .f32⟩
  | 14 => ⟨S300x1, .f32⟩
  | 15 => ⟨S300, .f32⟩
  | 16 => ⟨S_, .f32⟩
  | 17 => ⟨S300, .f32⟩
  | 18 => ⟨S300, .f32⟩
  | 19 => ⟨S300, .f32⟩
  | 20 => ⟨S300x1, .f32⟩
  | 21 => ⟨S300, .f32⟩
  | 22 => ⟨S300x1, .f32⟩
  | 23 => ⟨S300, .f32⟩
  | 24 => ⟨S_, .f32⟩
  | 25 => ⟨S300, .f32⟩
  | 26 => ⟨S300, .f32⟩
  | 27 => ⟨S300, .f32⟩
  | 28 => ⟨S300x1, .f32⟩
  | 29 => ⟨S300, .f32⟩
  | 30 => ⟨S300x1, .f32⟩
  | 31 => ⟨S300, .f32⟩
  | 32 => ⟨S_, .f32⟩
  | 33 => ⟨S300, .f32⟩
  | 34 => ⟨S300, .f32⟩
  | 35 => ⟨S300, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S6, .f32⟩
  | 44 => ⟨S_, .f32⟩
  | 45 => ⟨S6, .f32⟩
  | 46 => ⟨S6, .f32⟩
  | 47 => ⟨S1, .f32⟩
  | 48 => ⟨S_, .f32⟩
  | 49 => ⟨S6, .f32⟩
  | 50 => ⟨S6, .f32⟩
  | 51 => ⟨S6, .f32⟩
  | 52 => ⟨S6, .f32⟩
  | 53 => ⟨S1, .f32⟩
  | 54 => ⟨S6, .f32⟩
  | 55 => ⟨S6, .f32⟩
  | 56 => ⟨S6, .f32⟩
  | 57 => ⟨S1, .f32⟩
  | 58 => ⟨S7, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S6, .f32⟩
  | 67 => ⟨S_, .f32⟩
  | 68 => ⟨S6, .f32⟩
  | 69 => ⟨S6, .f32⟩
  | 70 => ⟨S1, .f32⟩
  | 71 => ⟨S_, .f32⟩
  | 72 => ⟨S6, .f32⟩
  | 73 => ⟨S6, .f32⟩
  | 74 => ⟨S6, .f32⟩
  | 75 => ⟨S6, .f32⟩
  | 76 => ⟨S1, .f32⟩
  | 77 => ⟨S6, .f32⟩
  | 78 => ⟨S6, .f32⟩
  | 79 => ⟨S6, .f32⟩
  | 80 => ⟨S1, .f32⟩
  | 81 => ⟨S7, .f32⟩
  | 82 => ⟨S300x1, .f32⟩
  | 83 => ⟨S300, .f32⟩
  | 84 => ⟨S300x1, .f32⟩
  | 85 => ⟨S1x7, .f32⟩
  | 86 => ⟨S300x7, .f32⟩
  | 87 => ⟨S300x7, .f32⟩
  | 88 => ⟨S300x7, .f32⟩
  | 89 => ⟨S300x7, .f32⟩
  | 90 => ⟨S300x7, .f32⟩
  | 91 => ⟨S300x1, .f32⟩
  | 92 => ⟨S300, .f32⟩
  | 93 => ⟨S300x1, .f32⟩
  | 94 => ⟨S1x7, .f32⟩
  | 95 => ⟨S300x7, .f32⟩
  | 96 => ⟨S300x7, .f32⟩
  | 97 => ⟨S300x7, .f32⟩
  | 98 => ⟨S300x7, .f32⟩
  | 99 => ⟨S300x7, .f32⟩
  | 100 => ⟨S_, .f32⟩
  | 101 => ⟨S300x7, .f32⟩
  | 102 => ⟨S300x7, .f32⟩
  | 103 => ⟨S_, .f32⟩
  | 104 => ⟨S300x7, .f32⟩
  | 105 => ⟨S300x7, .f32⟩
  | 106 => ⟨S_, .f32⟩
  | 107 => ⟨S_, .f32⟩
  | 108 => ⟨S_, .f32⟩
  | 109 => ⟨S300x7, .f32⟩
  | 110 => ⟨S300x7, .f32⟩
  | 111 => ⟨S_, .f32⟩
  | 112 => ⟨S300x7, .f32⟩
  | 113 => ⟨S300x7, .f32⟩
  | 114 => ⟨S_, .f32⟩
  | 115 => ⟨S300x7, .f32⟩
  | 116 => ⟨S300x7, .f32⟩
  | 117 => ⟨S_, .f32⟩
  | 118 => ⟨S300x7, .f32⟩
  | 119 => ⟨S300x7, .f32⟩
  | 120 => ⟨S_, .f32⟩
  | 121 => ⟨S_, .f32⟩
  | 122 => ⟨S_, .f32⟩
  | 123 => ⟨S300x7, .f32⟩
  | 124 => ⟨S300x7, .f32⟩
  | 125 => ⟨S_, .f32⟩
  | 126 => ⟨S300x7, .f32⟩
  | 127 => ⟨S300x7, .f32⟩
  | _ => ⟨S1x512x32x32, .f32⟩

abbrev hbmTy0_1 (i : Nat) : BufTy := match i % 128 with
  | 0 => ⟨S300x7, .f32⟩
  | 1 => ⟨S_, .i32⟩
  | 2 => ⟨S_, .i32⟩
  | 3 => ⟨S_, .f32⟩
  | 4 => ⟨S300x7, .f32⟩
  | 5 => ⟨S300x7, .f32⟩
  | 6 => ⟨S_, .f32⟩
  | 7 => ⟨S300x7, .f32⟩
  | 8 => ⟨S300x7, .f32⟩
  | 9 => ⟨S300x7, .i32⟩
  | 10 => ⟨S300x7, .f32⟩
  | 11 => ⟨S_, .i32⟩
  | 12 => ⟨S_, .i32⟩
  | 13 => ⟨S_, .f32⟩
  | 14 => ⟨S300x7, .f32⟩
  | 15 => ⟨S300x7, .f32⟩
  | 16 => ⟨S_, .f32⟩
  | 17 => ⟨S300x7, .f32⟩
  | 18 => ⟨S300x7, .f32⟩
  | 19 => ⟨S300x7, .i32⟩
  | 20 => ⟨S300x7, .f32⟩
  | 21 => ⟨S300x7, .f32⟩
  | 22 => ⟨S300x7, .f32⟩
  | 23 => ⟨S300x7, .f32⟩
  | 24 => ⟨S300x7x1, .i32⟩
  | 25 => ⟨S300x1x7, .i32⟩
  | 26 => ⟨S300x7x1, .f32⟩
  | 27 => ⟨S300x1x7, .f32⟩
  | 28 => ⟨S_, .i32⟩
  | 29 => ⟨S300x7x1, .i32⟩
  | 30 => ⟨S300x7x1, .i32⟩
  | 31 => ⟨S_, .i32⟩
  | 32 => ⟨S300x1x7, .i32⟩
  | 33 => ⟨S300x1x7, .i32⟩
  | 34 => ⟨S_, .i32⟩
  | 35 => ⟨S300x7x1, .i32⟩
  | 36 => ⟨S300x7x1, .i1⟩
  | 37 => ⟨S_, .i32⟩
  | 38 => ⟨S300x7x1, .i32⟩
  | 39 => ⟨S300x7x1, .i32⟩
  | 40 => ⟨S300x7x1, .i32⟩
  | 41 => ⟨S_, .i32⟩
  | 42 => ⟨S300x1x7, .i32⟩
  | 43 => ⟨S300x1x7, .i1⟩
  | 44 => ⟨S_, .i32⟩
  | 45 => ⟨S300x1x7, .i32⟩
  | 46 => ⟨S300x1x7, .i32⟩
  | 47 => ⟨S300x1x7, .i32⟩
  | 48 => ⟨S300x7x7, .i32⟩
  | 49 => ⟨S300x7x7, .i32⟩
  | 50 => ⟨S300x7x7x1, .i32⟩
  | 51 => ⟨S300x7x7x1, .i32⟩
  | 52 => ⟨S300x7x7x2, .i32⟩
  | 53 => ⟨S512x300x7x7, .f32⟩
  | 54 => ⟨S_, .f32⟩
  | 55 => ⟨S300x7x1, .f32⟩
  | 56 => ⟨S300x7x1, .f32⟩
  | 57 => ⟨S1x300x7x1, .f32⟩
  | 58 => ⟨S512x300x7x7, .f32⟩
  | 59 => ⟨S512x300x7x7, .f32⟩
  | 60 => ⟨S_, .f32⟩
  | 61 => ⟨S300x1x7, .f32⟩
  | 62 => ⟨S300x1x7, .f32⟩
  | 63 => ⟨S1x300x1x7, .f32⟩
  | 64 => ⟨S512x300x7x7, .f32⟩
  | 65 => ⟨S512x300x7x7, .f32⟩
  | 66 => ⟨S_, .i32⟩
  | 67 => ⟨S300x7x1, .i32⟩
  | 68 => ⟨S300x7x1, .i32⟩
  | 69 => ⟨S_, .i32⟩
  | 70 => ⟨S300x1x7, .i32⟩
  | 71 => ⟨S300x1x7, .i32⟩
  | 72 => ⟨S_, .i32⟩
  | 73 => ⟨S300x7x1, .i32⟩
  | 74 => ⟨S300x7x1, .i1⟩
  | 75 => ⟨S_, .i32⟩
  | 76 => ⟨S300x7x1, .i32⟩
  | 77 => ⟨S300x7x1, .i32⟩
  | 78 => ⟨S300x7x1, .i32⟩
  | 79 => ⟨S_, .i32⟩
  | 80 => ⟨S300x1x7, .i32⟩
  | 81 => ⟨S300x1x7, .i1⟩
  | 82 => ⟨S_, .i32⟩
  | 83 => ⟨S300x1x7, .i32⟩
  | 84 => ⟨S300x1x7, .i32⟩
  | 85 => ⟨S300x1x7, .i32⟩
  | 86 => ⟨S300x7x7, .i32⟩
  | 87 => ⟨S300x7x7, .i32⟩
  | 88 => ⟨S300x7x7x1, .i32⟩
  | 89 => ⟨S300x7x7x1, .i32⟩
  | 90 => ⟨S300x7x7x2, .i32⟩
  | 91 => ⟨S512x300x7x7, .f32⟩
  | 92 => ⟨S_, .f32⟩
  | 93 => ⟨S300x7x1, .f32⟩
  | 94 => ⟨S300x7x1, .f32⟩
  | 95 => ⟨S1x300x7x1, .f32⟩
  | 96 => ⟨S512x300x7x7, .f32⟩
  | 97 => ⟨S512x300x7x7, .f32⟩
  | 98 => ⟨S1x300x1x7, .f32⟩
  | 99 => ⟨S512x300x7x7, .f32⟩
  | 100 => ⟨S512x300x7x7, .f32⟩
  | 101 => ⟨S512x300x7x7, .f32⟩
  | 102 => ⟨S_, .i32⟩
  | 103 => ⟨S300x7x1, .i32⟩
  | 104 => ⟨S300x7x1, .i32⟩
  | 105 => ⟨S_, .i32⟩
  | 106 => ⟨S300x1x7, .i32⟩
  | 107 => ⟨S300x1x7, .i32⟩
  | 108 => ⟨S_, .i32⟩
  | 109 => ⟨S300x7x1, .i32⟩
  | 110 => ⟨S300x7x1, .i1⟩
  | 111 => ⟨S_, .i32⟩
  | 112 => ⟨S300x7x1, .i32⟩
  | 113 => ⟨S300x7x1, .i32⟩
  | 114 => ⟨S300x7x1, .i32⟩
  | 115 => ⟨S_, .i32⟩
  | 116 => ⟨S300x1x7, .i32⟩
  | 117 => ⟨S300x1x7, .i1⟩
  | 118 => ⟨S_, .i32⟩
  | 119 => ⟨S300x1x7, .i32⟩
  | 120 => ⟨S300x1x7, .i32⟩
  | 121 => ⟨S300x1x7, .i32⟩
  | 122 => ⟨S300x7x7, .i32⟩
  | 123 => ⟨S300x7x7, .i32⟩
  | 124 => ⟨S300x7x7x1, .i32⟩
  | 125 => ⟨S300x7x7x1, .i32⟩
  | 126 => ⟨S300x7x7x2, .i32⟩
  | 127 => ⟨S512x300x7x7, .f32⟩
  | _ => ⟨S1x512x32x32, .f32⟩

abbrev hbmTy0_2 (i : Nat) : BufTy := match i % 128 with
  | 0 => ⟨S1x300x7x1, .f32⟩
  | 1 => ⟨S512x300x7x7, .f32⟩
  | 2 => ⟨S512x300x7x7, .f32⟩
  | 3 => ⟨S_, .f32⟩
  | 4 => ⟨S300x1x7, .f32⟩
  | 5 => ⟨S300x1x7, .f32⟩
  | 6 => ⟨S1x300x1x7, .f32⟩
  | 7 => ⟨S512x300x7x7, .f32⟩
  | 8 => ⟨S512x300x7x7, .f32⟩
  | 9 => ⟨S512x300x7x7, .f32⟩
  | 10 => ⟨S_, .i32⟩
  | 11 => ⟨S300x7x1, .i32⟩
  | 12 => ⟨S300x7x1, .i32⟩
  | 13 => ⟨S_, .i32⟩
  | 14 => ⟨S300x1x7, .i32⟩
  | 15 => ⟨S300x1x7, .i32⟩
  | 16 => ⟨S_, .i32⟩
  | 17 => ⟨S300x7x1, .i32⟩
  | 18 => ⟨S300x7x1, .i1⟩
  | 19 => ⟨S_, .i32⟩
  | 20 => ⟨S300x7x1, .i32⟩
  | 21 => ⟨S300x7x1, .i32⟩
  | 22 => ⟨S300x7x1, .i32⟩
  | 23 => ⟨S_, .i32⟩
  | 24 => ⟨S300x1x7, .i32⟩
  | 25 => ⟨S300x1x7, .i1⟩
  | 26 => ⟨S_, .i32⟩
  | 27 => ⟨S300x1x7, .i32⟩
  | 28 => ⟨S300x1x7, .i32⟩
  | 29 => ⟨S300x1x7, .i32⟩
  | 30 => ⟨S300x7x7, .i32⟩
  | 31 => ⟨S300x7x7, .i32⟩
  | 32 => ⟨S300x7x7x1, .i32⟩
  | 33 => ⟨S300x7x7x1, .i32⟩
  | 34 => ⟨S300x7x7x2, .i32⟩
  | 35 => ⟨S512x300x7x7, .f32⟩
  | 36 => ⟨S1x300x7x1, .f32⟩
  | 37 => ⟨S512x300x7x7, .f32⟩
  | 38 => ⟨S512x300x7x7, .f32⟩
  | 39 => ⟨S1x300x1x7, .f32⟩
  | 40 => ⟨S512x300x7x7, .f32⟩
  | 41 => ⟨S512x300x7x7, .f32⟩
  | 42 => ⟨S512x300x7x7, .f32⟩
  | 43 => ⟨S300x512x7x7, .f32⟩
  | 44 => ⟨S300x1x1x1, .f32⟩
  | 45 => ⟨S300x512x7x7, .f32⟩
  | 46 => ⟨S300x512x7x7, .f32⟩
  | _ => ⟨S1x512x32x32, .f32⟩

abbrev hbmTy (i : Nat) : BufTy := match i / 128 with
  | 0 => hbmTy0_0 i
  | 1 => hbmTy0_1 i
  | 2 => hbmTy0_2 i
  | _ => ⟨S1x512x32x32, .f32⟩

abbrev bufTy : (tb : Table) → Fin (tcTables nBuf tb) → BufTy
  | .hbm, ⟨i, _⟩ => hbmTy i
  | _, _ => ⟨S1x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_cst : Ref sig .tc := ⟨.hbm, 41, rfl⟩
abbrev main_call0_v3 : Ref sig .tc := ⟨.hbm, 42, rfl⟩
abbrev main_call0_v4 : Ref sig .tc := ⟨.hbm, 43, rfl⟩
abbrev main_call0_cst_0 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_v15 : Ref sig .tc := ⟨.hbm, 56, rfl⟩
abbrev main_call0_v16 : Ref sig .tc := ⟨.hbm, 57, rfl⟩
abbrev main_v29 : Ref sig .tc := ⟨.hbm, 58, rfl⟩
abbrev main_cst_5 : Ref sig .tc := ⟨.hbm, 59, rfl⟩
abbrev main_cst_6 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_cst : Ref sig .tc := ⟨.hbm, 64, rfl⟩
abbrev main_call1_v3 : Ref sig .tc := ⟨.hbm, 65, rfl⟩
abbrev main_call1_v4 : Ref sig .tc := ⟨.hbm, 66, rfl⟩
abbrev main_call1_cst_0 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_cst_1 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_v15 : Ref sig .tc := ⟨.hbm, 79, rfl⟩
abbrev main_call1_v16 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_cst_7 : Ref sig .tc := ⟨.hbm, 100, rfl⟩
abbrev main_v49 : Ref sig .tc := ⟨.hbm, 101, rfl⟩
abbrev main_v50 : Ref sig .tc := ⟨.hbm, 102, rfl⟩
abbrev main_cst_8 : Ref sig .tc := ⟨.hbm, 103, rfl⟩
abbrev main_v51 : Ref sig .tc := ⟨.hbm, 104, rfl⟩
abbrev main_v52 : Ref sig .tc := ⟨.hbm, 105, rfl⟩
abbrev main_cst_9 : Ref sig .tc := ⟨.hbm, 106, rfl⟩
abbrev main_cst_10 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_v53 : Ref sig .tc := ⟨.hbm, 113, rfl⟩
abbrev main_cst_11 : Ref sig .tc := ⟨.hbm, 114, rfl⟩
abbrev main_v54 : Ref sig .tc := ⟨.hbm, 115, rfl⟩
abbrev main_v55 : Ref sig .tc := ⟨.hbm, 116, rfl⟩
abbrev main_cst_12 : Ref sig .tc := ⟨.hbm, 117, rfl⟩
abbrev main_v56 : Ref sig .tc := ⟨.hbm, 118, rfl⟩
abbrev main_v57 : Ref sig .tc := ⟨.hbm, 119, rfl⟩
abbrev main_cst_13 : Ref sig .tc := ⟨.hbm, 120, rfl⟩
abbrev main_cst_14 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_v58 : Ref sig .tc := ⟨.hbm, 127, rfl⟩
abbrev main_v59 : Ref sig .tc := ⟨.hbm, 128, rfl⟩
abbrev main_c : Ref sig .tc := ⟨.hbm, 129, rfl⟩
abbrev main_c_15 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_c_16 : Ref sig .tc := ⟨.hbm, 139, rfl⟩
abbrev main_c_17 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_v63 : Ref sig .tc := ⟨.hbm, 146, rfl⟩
abbrev main_v64 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_c_18 : Ref sig .tc := ⟨.hbm, 156, rfl⟩
abbrev main_v73 : Ref sig .tc := ⟨.hbm, 157, rfl⟩
abbrev main_v74 : Ref sig .tc := ⟨.hbm, 158, rfl⟩
abbrev main_c_19 : Ref sig .tc := ⟨.hbm, 159, rfl⟩
abbrev main_v75 : Ref sig .tc := ⟨.hbm, 160, rfl⟩
abbrev main_v76 : Ref sig .tc := ⟨.hbm, 161, rfl⟩
abbrev main_c_20 : Ref sig .tc := ⟨.hbm, 162, rfl⟩
abbrev main_v77 : Ref sig .tc := ⟨.hbm, 163, rfl⟩
abbrev main_v78 : Ref sig .tc := ⟨.hbm, 164, rfl⟩
abbrev main_c_21 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_c_22 : Ref sig .tc := ⟨.hbm, 169, rfl⟩
abbrev main_v82 : Ref sig .tc := ⟨.hbm, 170, rfl⟩
abbrev main_v83 : Ref sig .tc := ⟨.hbm, 171, rfl⟩
abbrev main_c_23 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_cst_24 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_cst_25 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_c_26 : Ref sig .tc := ⟨.hbm, 194, rfl⟩
abbrev main_v103 : Ref sig .tc := ⟨.hbm, 195, rfl⟩
abbrev main_v104 : Ref sig .tc := ⟨.hbm, 196, rfl⟩
abbrev main_c_27 : Ref sig .tc := ⟨.hbm, 197, rfl⟩
abbrev main_v105 : Ref sig .tc := ⟨.hbm, 198, rfl⟩
abbrev main_v106 : Ref sig .tc := ⟨.hbm, 199, rfl⟩
abbrev main_c_28 : Ref sig .tc := ⟨.hbm, 200, rfl⟩
abbrev main_v107 : Ref sig .tc := ⟨.hbm, 201, rfl⟩
abbrev main_v108 : Ref sig .tc := ⟨.hbm, 202, rfl⟩
abbrev main_c_29 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_c_30 : Ref sig .tc := ⟨.hbm, 207, rfl⟩
abbrev main_v112 : Ref sig .tc := ⟨.hbm, 208, rfl⟩
abbrev main_v113 : Ref sig .tc := ⟨.hbm, 209, rfl⟩
abbrev main_c_31 : Ref sig .tc := ⟨.hbm, 210, rfl⟩
abbrev main_v114 : Ref sig .tc := ⟨.hbm, 211, rfl⟩
abbrev main_v115 : Ref sig .tc := ⟨.hbm, 212, rfl⟩
abbrev main_v116 : Ref sig .tc := ⟨.hbm, 213, rfl⟩
abbrev main_v117 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_cst_32 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_c_33 : Ref sig .tc := ⟨.hbm, 230, rfl⟩
abbrev main_v132 : Ref sig .tc := ⟨.hbm, 231, rfl⟩
abbrev main_v133 : Ref sig .tc := ⟨.hbm, 232, rfl⟩
abbrev main_c_34 : Ref sig .tc := ⟨.hbm, 233, rfl⟩
abbrev main_v134 : Ref sig .tc := ⟨.hbm, 234, rfl⟩
abbrev main_v135 : Ref sig .tc := ⟨.hbm, 235, rfl⟩
abbrev main_c_35 : Ref sig .tc := ⟨.hbm, 236, rfl⟩
abbrev main_v136 : Ref sig .tc := ⟨.hbm, 237, rfl⟩
abbrev main_v137 : Ref sig .tc := ⟨.hbm, 238, rfl⟩
abbrev main_c_36 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_c_37 : Ref sig .tc := ⟨.hbm, 243, rfl⟩
abbrev main_v141 : Ref sig .tc := ⟨.hbm, 244, rfl⟩
abbrev main_v142 : Ref sig .tc := ⟨.hbm, 245, rfl⟩
abbrev main_c_38 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_cst_39 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_v160 : Ref sig .tc := ⟨.hbm, 265, rfl⟩
abbrev main_c_40 : Ref sig .tc := ⟨.hbm, 266, rfl⟩
abbrev main_v161 : Ref sig .tc := ⟨.hbm, 267, rfl⟩
abbrev main_v162 : Ref sig .tc := ⟨.hbm, 268, rfl⟩
abbrev main_c_41 : Ref sig .tc := ⟨.hbm, 269, rfl⟩
abbrev main_v163 : Ref sig .tc := ⟨.hbm, 270, rfl⟩
abbrev main_v164 : Ref sig .tc := ⟨.hbm, 271, rfl⟩
abbrev main_c_42 : Ref sig .tc := ⟨.hbm, 272, rfl⟩
abbrev main_v165 : Ref sig .tc := ⟨.hbm, 273, rfl⟩
abbrev main_v166 : Ref sig .tc := ⟨.hbm, 274, rfl⟩
abbrev main_c_43 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_c_44 : Ref sig .tc := ⟨.hbm, 279, rfl⟩
abbrev main_v170 : Ref sig .tc := ⟨.hbm, 280, rfl⟩
abbrev main_v171 : Ref sig .tc := ⟨.hbm, 281, rfl⟩
abbrev main_c_45 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_v179 : Ref sig .tc := ⟨.hbm, 290, rfl⟩
abbrev main_v180 : Ref sig .tc := ⟨.hbm, 291, rfl⟩
abbrev main_v181 : Ref sig .tc := ⟨.hbm, 292, rfl⟩
abbrev main_v182 : Ref sig .tc := ⟨.hbm, 293, rfl⟩
abbrev main_v183 : Ref sig .tc := ⟨.hbm, 294, rfl⟩
abbrev main_v184 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_v191 : Ref sig .tc := ⟨.hbm, 302, rfl⟩

abbrev nD : Nat := 1
abbrev τ : Topo := Topo.v7x

variable {F : FTy → Type} [FloatOps F]
-- ==== Proof.KernelFrame.lean ====
module

public import proofs.«01_k».proof.Proof.Gen.Kernel.Frame
public import proofs.«01_k».proof.Proof.Gen.Kernel.Skeleton
public import proofs.«01_k».proof.Proof.Gen.Kernel.Loops
public import Idealize.ShloMosaic.Lib.Claim

/-! The frame of the kernel as printed, at any float instance: it runs, leaves its arguments unchanged and every counter
    at zero.  Nothing is said of what the call writes. -/

@[expose] public section

set_option maxRecDepth 16384

noncomputable section

namespace Cert.Proof.Printed

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v80, main_v81, main_v82}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb; cases Proc.devRef_injective _ hb; decide

set_option maxHeartbeats 1140000 in
/-- The frame from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frameOf (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c)⟩) h

/-- Each window's current staging memref at point `t`, spelled as the pipeline passes it (`bodyAt0`), and its wholeness. -/
abbrev ms0_0 (t : Fin cfg0.N) : Memref sig .tc .vmem S4608x1024 .f32 := win0_0.stage (cfg0.slots t 0)
abbrev hs0_0 (t : Fin cfg0.N) : (ms0_0 t).IsWhole := hstage0_0 0
abbrev ms0_1 (t : Fin cfg0.N) : Memref sig .tc .vmem S256x4608 .f32 := win0_1.stage (cfg0.slots t 1)
abbrev hs0_1 (t : Fin cfg0.N) : (ms0_1 t).IsWhole := hstage0_1 0
abbrev ms0_2 (t : Fin cfg0.N) : Memref sig .tc .vmem S256x1 .f32 := win0_2.stage (cfg0.slots t 2)
abbrev hs0_2 (t : Fin cfg0.N) : (ms0_2 t).IsWhole := hstage0_2 0
abbrev ms0_3 (t : Fin cfg0.N) : Memref sig .tc .vmem S12x256 .f32 := win0_3.stage (cfg0.slots t 3)
abbrev hs0_3 (t : Fin cfg0.N) : (ms0_3 t).IsWhole := hstage0_3 0
abbrev ms0_4 (t : Fin cfg0.N) : Memref sig .tc .vmem S12x256 .f32 := win0_4.stage (cfg0.slots t 4)
abbrev hs0_4 (t : Fin cfg0.N) : (ms0_4 t).IsWhole := hstage0_4 0
abbrev ms0_5 (t : Fin cfg0.N) : Memref sig .tc .vmem S12x256 .f32 := win0_5.stage (cfg0.slots t 5)
abbrev hs0_5 (t : Fin cfg0.N) : (ms0_5 t).IsWhole := hstage0_5 0
abbrev ms0_6 (t : Fin cfg0.N) : Memref sig .tc .vmem S12x256 .f32 := win0_6.stage (cfg0.slots t 6)
abbrev hs0_6 (t : Fin cfg0.N) : (ms0_6 t).IsWhole := hstage0_6 0
abbrev ms0_7 (t : Fin cfg0.N) : Memref sig .tc .vmem S12x1 .f32 := win0_7.stage (cfg0.slots t 7)
abbrev hs0_7 (t : Fin cfg0.N) : (ms0_7 t).IsWhole := hstage0_7 0
abbrev ms0_8 (t : Fin cfg0.N) : Memref sig .tc .vmem S12x1 .f32 := win0_8.stage (cfg0.slots t 8)
abbrev hs0_8 (t : Fin cfg0.N) : (ms0_8 t).IsWhole := hstage0_8 0
abbrev ms0_9 (t : Fin cfg0.N) : Memref sig .tc .vmem S12x1 .f32 := win0_9.stage (cfg0.slots t 9)
abbrev hs0_9 (t : Fin cfg0.N) : (ms0_9 t).IsWhole := hstage0_9 0
abbrev ms0_10 (t : Fin cfg0.N) : Memref sig .tc .vmem S12x1 .f32 := win0_10.stage (cfg0.slots t 10)
abbrev hs0_10 (t : Fin cfg0.N) : (ms0_10 t).IsWhole := hstage0_10 0
abbrev ms0_11 (t : Fin cfg0.N) : Memref sig .tc .vmem S12x256 .f32 := win0_11.stage (cfg0.slots t 11)
abbrev hs0_11 (t : Fin cfg0.N) : (ms0_11 t).IsWhole := hstage0_11 0
abbrev ms0_12 (t : Fin cfg0.N) : Memref sig .tc .vmem S12x1 .f32 := win0_12.stage (cfg0.slots t 12)
abbrev hs0_12 (t : Fin cfg0.N) : (ms0_12 t).IsWhole := hstage0_12 0
abbrev ms0_13 (t : Fin cfg0.N) : Memref sig .tc .vmem S96x128 .f32 := win0_13.stage (cfg0.slots t 13)
abbrev hs0_13 (t : Fin cfg0.N) : (ms0_13 t).IsWhole := hstage0_13 0
abbrev ms0_14 (t : Fin cfg0.N) : Memref sig .tc .vmem S96x128 .f32 := win0_14.stage (cfg0.slots t 14)
abbrev hs0_14 (t : Fin cfg0.N) : (ms0_14 t).IsWhole := hstage0_14 0
abbrev ms0_15 (t : Fin cfg0.N) : Memref sig .tc .vmem S96x128 .f32 := win0_15.stage (cfg0.slots t 15)
abbrev hs0_15 (t : Fin cfg0.N) : (ms0_15 t).IsWhole := hstage0_15 0
abbrev ms0_16 (t : Fin cfg0.N) : Memref sig .tc .vmem S96x128 .f32 := win0_16.stage (cfg0.slots t 16)
abbrev hs0_16 (t : Fin cfg0.N) : (ms0_16 t).IsWhole := hstage0_16 0
abbrev ms0_17 (t : Fin cfg0.N) : Memref sig .tc .vmem S304x128 .f32 := win0_17.stage (cfg0.slots t 17)
abbrev hs0_17 (t : Fin cfg0.N) : (ms0_17 t).IsWhole := hstage0_17 0
abbrev ms0_18 (t : Fin cfg0.N) : Memref sig .tc .vmem S6x96x128 .f32 := win0_18.stage (cfg0.slots t 18)
abbrev hs0_18 (t : Fin cfg0.N) : (ms0_18 t).IsWhole := hstage0_18 0

-- (the run's proof term is large: checking it walks past the default budget)
set_option maxHeartbeats 1000000 in
/-- The body's triple: on whole staging memrefs — the inputs' at their contents,
    the FORGOTTEN outputs' (17, 18) at anything, handed back at some contents nothing names —
    the body runs to the continuation holding the inputs' as they were: the printed functions are their skeletons (`Gen.*_eq_skeleton`),
    which `sl_exec` runs (Lib/Exec.lean). -/
theorem kernelRun0_A (c : Dev nD) (arg0 : Memref sig .tc .vmem S4608x1024 .f32) (harg0 : arg0.IsWhole) (arg1 : Memref sig .tc .vmem S256x4608 .f32) (harg1 : arg1.IsWhole) (arg2 : Memref sig .tc .vmem S256x1 .f32) (harg2 : arg2.IsWhole) (arg3 : Memref sig .tc .vmem S12x256 .f32) (harg3 : arg3.IsWhole) (arg4 : Memref sig .tc .vmem S12x256 .f32) (harg4 : arg4.IsWhole) (arg5 : Memref sig .tc .vmem S12x256 .f32) (harg5 : arg5.IsWhole) (arg6 : Memref sig .tc .vmem S12x256 .f32) (harg6 : arg6.IsWhole) (arg7 : Memref sig .tc .vmem S12x1 .f32) (harg7 : arg7.IsWhole) (arg8 : Memref sig .tc .vmem S12x1 .f32) (harg8 : arg8.IsWhole) (arg9 : Memref sig .tc .vmem S12x1 .f32) (harg9 : arg9.IsWhole) (arg10 : Memref sig .tc .vmem S12x1 .f32) (harg10 : arg10.IsWhole) (arg11 : Memref sig .tc .vmem S12x256 .f32) (harg11 : arg11.IsWhole) (arg12 : Memref sig .tc .vmem S12x1 .f32) (harg12 : arg12.IsWhole) (arg13 : Memref sig .tc .vmem S96x128 .f32) (harg13 : arg13.IsWhole) (arg14 : Memref sig .tc .vmem S96x128 .f32) (harg14 : arg14.IsWhole) (arg15 : Memref sig .tc .vmem S96x128 .f32) (harg15 : arg15.IsWhole) (arg16 : Memref sig .tc .vmem S96x128 .f32) (harg16 : arg16.IsWhole) (arg17 : Memref sig .tc .vmem S304x128 .f32) (harg17 : arg17.IsWhole) (arg18 : Memref sig .tc .vmem S6x96x128 .f32) (harg18 : arg18.IsWhole)
    (x0 : Vec F S4608x1024 .f32) (x1 : Vec F S256x4608 .f32) (x2 : Vec F S256x1 .f32) (x3 : Vec F S12x256 .f32) (x4 : Vec F S12x256 .f32) (x5 : Vec F S12x256 .f32) (x6 : Vec F S12x256 .f32) (x7 : Vec F S12x1 .f32) (x8 : Vec F S12x1 .f32) (x9 : Vec F S12x1 .f32) (x10 : Vec F S12x1 .f32) (x11 : Vec F S12x256 .f32) (x12 : Vec F S12x1 .f32) (x13 : Vec F S96x128 .f32) (x14 : Vec F S96x128 .f32) (x15 : Vec F S96x128 .f32) (x16 : Vec F S96x128 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d)) -∗ K ⟨⟩))
          ⊢ wp frame (wpE (defs₀ (F := F)) Variants.none c none) E (cc0__trunk_nms_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__trunk_nms_body_eq_skeleton]; unfold cc0__trunk_nms_body_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _, _; isplitr; swap; · iexact H17
      ipureintro; rfl
    iexists _, _; isplitr; swap; · iexact H18
    ipureintro; rfl

/-! ## The pipeline's proof data -/

/-- The output windows this certificate FORGETS (17, 18): nothing reads what the kernel leaves in them, so nothing
    of it is named (Lib/Pipeline/Dat.lean `Dat.toRForget`). -/
def forgets0 : Fin 19 → Bool := fun w => w.val == 17 || w.val == 18

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ d, owns (c : Thread nD τ) (ms0_17 t) fullShare d)
    ∗ (∃ d, owns (c : Thread nD τ) (ms0_18 t) fullShare d))

set_option maxHeartbeats 1600000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((kernelRun0_A c _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- The launch: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 17, 18) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frameOf m ρ (fun c => (dats m 0 c).toRForget forgets0) (A_eq m) (run_main m ρ)

/-- The frame: `Cert.quiescent_Kernel`'s statement (Defs.lean) at any `F` — the claim reads it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.Printed

end
-- ==== Proof.RefRun.lean ====
module

public import proofs.«01_k».proof.Proof.Gen.ReferenceIdeal.Run

/-! The reference's run from its generated fold: which buffers its loop and its host lines leave alone, and the frame. -/

@[expose] public section

noncomputable section

namespace Cert.Proof.Ref

open Cert.ReferenceIdeal Cert.ReferenceIdeal.Value
open Idealize.ShloMosaic Idealize.ShloMosaic.TcCoe Idealize.ShloMosaic.StableHlo Idealize.SL.Sem

variable {F : FTy → Type} [FloatOps F]

variable (m : (ℓ : Loc nD τ sig) → Buf (Elt F) ℓ) (ρ : Dev nD → PrngReg)

/-- What one trip of the loop writes. -/
abbrev loopW : List (Ref sig .tc) := condOps_W ++ while0Ops0_W ++ while0Ops0_1_W ++ while0Ops0_2_W ++ while0Ops0_3_W ++ while0Ops0_4_W ++ while0Ops0_5_W ++ while0Ops0_6_W ++ while0Ops0_7_W ++ while0Ops0_8_W

/-- What the lines before the loop write. -/
abbrev preW : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W

/-- A buffer one trip does not write is after the trip what it was. -/
theorem trip_keep (r : Ref sig .tc) (h : r ∉ loopW) (X : Valuation τ sig (Elt F)) :
    afterL bodyI (after condOps X) (Proc.devRef .tc r) = X (Proc.devRef .tc r) := by
  simp only [loopW, List.mem_append, not_or] at h
  obtain ⟨⟨⟨⟨⟨⟨⟨⟨⟨h0, h1⟩, h2⟩, h3⟩, h4⟩, h5⟩, h6⟩, h7⟩, h8⟩, h9⟩ := h
  simp only [afterL_cons, afterL_nil]
  rw [after_of_writes_sub _ _ while0Ops0_8_writes h9, after_of_writes_sub _ _ while0Ops0_7_writes h8, after_of_writes_sub _ _ while0Ops0_6_writes h7, after_of_writes_sub _ _ while0Ops0_5_writes h6, after_of_writes_sub _ _ while0Ops0_4_writes h5, after_of_writes_sub _ _ while0Ops0_3_writes h4, after_of_writes_sub _ _ while0Ops0_2_writes h3, after_of_writes_sub _ _ while0Ops0_1_writes h2, after_of_writes_sub _ _ while0Ops0_writes h1, after_of_writes_sub _ _ condOps_writes h0]

/-- So through any number of trips. -/
theorem loop_keep (r : Ref sig .tc) (h : r ∉ loopW) (c : Dev nD) : ∀ k, atK m k c (Proc.devRef .tc r) = entryContents preI m c (Proc.devRef .tc r)
  | 0 => rfl
  | k + 1 => (trip_keep r h (atK m k c)).trans (loop_keep r h c k)

/-- A buffer the lines before the loop do not write reaches the loop as launched. -/
theorem entry_keep (r : Ref sig .tc) (h : r ∉ preW) (c : Dev nD) : entryContents preI m c (Proc.devRef .tc r) = m ((c.tc : Thread nD τ).loc r) := by
  simp only [preW, List.mem_append, not_or] at h
  obtain ⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩ := h
  simp only [entryContents, afterL_cons, afterL_nil]
  rw [after_of_writes_sub _ _ hostOps0_18_writes h18, after_of_writes_sub _ _ hostOps0_17_writes h17, after_of_writes_sub _ _ hostOps0_16_writes h16, after_of_writes_sub _ _ hostOps0_15_writes h15, after_of_writes_sub _ _ hostOps0_14_writes h14, after_of_writes_sub _ _ hostOps0_13_writes h13, after_of_writes_sub _ _ hostOps0_12_writes h12, after_of_writes_sub _ _ hostOps0_11_writes h11, after_of_writes_sub _ _ hostOps0_10_writes h10, after_of_writes_sub _ _ hostOps0_9_writes h9, after_of_writes_sub _ _ hostOps0_8_writes h8, after_of_writes_sub _ _ hostOps0_7_writes h7, after_of_writes_sub _ _ hostOps0_6_writes h6, after_of_writes_sub _ _ hostOps0_5_writes h5, after_of_writes_sub _ _ hostOps0_4_writes h4, after_of_writes_sub _ _ hostOps0_3_writes h3, after_of_writes_sub _ _ hostOps0_2_writes h2, after_of_writes_sub _ _ hostOps0_1_writes h1, after_of_writes_sub _ _ hostOps0_writes h0]

/-- What the lines after the loop write. -/
abbrev postW : List (Ref sig .tc) := [main_c_34, main_v235, main_v236, main_c_35, main_v237, main_v238, main_v239, main_v240, main_c_36, main_v241, main_v242, main_c_37, main_v243, main_v244, main_v245, main_v246, main_v247, main_v248, main_v249, main_v250]

theorem post_writes : (Gen.hostOps0_19 : List (HloOp τ sig (Elt F))).Forall fun op => op.writes ⊆ (postW.map (Proc.devRef (τ := τ) .tc)).toFinset :=
  forall_writes_sub_of_map rfl

/-- A buffer nothing writes ends as launched. -/
theorem final_keep (r : Ref sig .tc) (h : r ∉ preW) (hl : r ∉ loopW) (hp : r ∉ postW) (c : Dev nD) :
    finalContents condOps preI bodyI postI 300 m c (Proc.devRef .tc r) = m ((c.tc : Thread nD τ).loc r) := by
  have hc : r ∉ condOps_W := fun h' => hl (by simp only [loopW, List.mem_append]; tauto)
  simp only [finalContents, afterL_cons, afterL_nil]
  rw [after_of_writes_sub _ _ post_writes hp, after_of_writes_sub _ _ condOps_writes hc]
  exact (loop_keep m r hl c 300).trans (entry_keep m r h c)

/-- The reference's frame: it runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h c main_arg0 rfl).trans (final_keep m main_arg0 (by decide +kernel) (by decide +kernel) (by decide +kernel) c), (h c main_arg1 rfl).trans (final_keep m main_arg1 (by decide +kernel) (by decide +kernel) (by decide +kernel) c), (h c main_arg2 rfl).trans (final_keep m main_arg2 (by decide +kernel) (by decide +kernel) (by decide +kernel) c), (h c main_arg3 rfl).trans (final_keep m main_arg3 (by decide +kernel) (by decide +kernel) (by decide +kernel) c), (h c main_arg4 rfl).trans (final_keep m main_arg4 (by decide +kernel) (by decide +kernel) (by decide +kernel) c), (h c main_arg5 rfl).trans (final_keep m main_arg5 (by decide +kernel) (by decide +kernel) (by decide +kernel) c), (h c main_arg6 rfl).trans (final_keep m main_arg6 (by decide +kernel) (by decide +kernel) (by decide +kernel) c)⟩, sem_eq_zero_of_no_sems (by decide) r.2⟩) (run_fold m ρ)

end Cert.Proof.Ref

end
-- ==== Proof.Nms.lean ====
module

public import proofs.«01_k».proof.Proof.Gen.KernelIdeal.Frame
public import proofs.«01_k».proof.Proof.Gen.KernelIdeal.Loops
public import Idealize.ShloMosaic.Lib.WritesUnit
public import Idealize.ShloMosaic.Lib.ValueIdx

/-! The counted loop of the trunk kernel as pure functions of the box tables: one trip's next scores and the row it stores. -/

@[expose] public section

noncomputable section

namespace Cert.Proof

open Cert.KernelIdeal Cert.KernelIdeal.Gen
open Idealize.ShloMosaic Idealize.ShloMosaic.TcCoe Idealize.ShloMosaic.Tactic Idealize.ShloMosaic.ValueIdx

variable {F : FTy → Type} [FloatOps F]

/-- The tables the loop reads, each over the 96 × 128 boxes: width, height, centre, corners and area of the clipped boxes. -/
structure Tab (F : FTy → Type) where
  w : FVec F S96x128 .f32
  h : FVec F S96x128 .f32
  xc : FVec F S96x128 .f32
  yc : FVec F S96x128 .f32
  x1 : FVec F S96x128 .f32
  y1 : FVec F S96x128 .f32
  x2 : FVec F S96x128 .f32
  y2 : FVec F S96x128 .f32
  area : FVec F S96x128 .f32

/-- The float the loop takes for minus infinity. -/
abbrev negInf : F .f32 := Scalar.ofBits .f32 0xFF800000#32

/-- The lane numbers of one output row. -/
abbrev lanes : IVec S1x128 32 := iota .tc S1x128 32 [1] iota_S1x128_d1_w32

/-- Whether some score is above minus infinity. -/
abbrev okOf (sc : FVec F S96x128 .f32) : BitVec 1 := Scalar.cmpf .ogt (k0_pay2 sc) negInf

/-- The least box number whose score is the greatest. -/
abbrev pickOf (sc : FVec F S96x128 .f32) : BitVec 32 := extractAt ![0, 0, 0] (k0_pay3 k0_pay44 sc) inpos_S1x1x1_p0_0_0

/-- One trip's new scores. -/
def Tab.next (T : Tab F) (sc : FVec F S96x128 .f32) : FVec F S96x128 .f32 :=
  k0_pay9 T.area k0_pay44 negInf sc (okOf sc) (pickOf sc) (k0_pay5 T.area k0_pay44 sc) (k0_pay6 T.y1 k0_pay44 sc)
    (k0_pay7 T.y2 k0_pay44 sc) (k0_pay8 T.x1 T.x2 k0_pay44 sc)

/-- The row one trip stores. -/
def Tab.row (T : Tab F) (sc : FVec F S96x128 .f32) : FVec F S1x128 .f32 :=
  k0_pay1 lanes (k0_pay10 (F := F) (okOf sc)) (k0_pay11 T.xc (okOf sc) (k0_pay4 k0_pay44 sc))
    (k0_pay12 T.yc (okOf sc) (k0_pay4 k0_pay44 sc)) (k0_pay13 T.w (okOf sc) (k0_pay4 k0_pay44 sc))
    (k0_pay14 T.h (okOf sc) (k0_pay4 k0_pay44 sc)) (k0_pay15 lanes) 1#32

section Trip

variable (c : Dev nD) (arg0 : Memref sig .tc .vmem S4608x1024 .f32) (harg0 : arg0.IsWhole) (arg1 : Memref sig .tc .vmem S256x4608 .f32) (harg1 : arg1.IsWhole) (arg2 : Memref sig .tc .vmem S256x1 .f32) (harg2 : arg2.IsWhole) (arg3 : Memref sig .tc .vmem S12x256 .f32) (harg3 : arg3.IsWhole) (arg4 : Memref sig .tc .vmem S12x256 .f32) (harg4 : arg4.IsWhole) (arg5 : Memref sig .tc .vmem S12x256 .f32) (harg5 : arg5.IsWhole) (arg6 : Memref sig .tc .vmem S12x256 .f32) (harg6 : arg6.IsWhole) (arg7 : Memref sig .tc .vmem S12x1 .f32) (harg7 : arg7.IsWhole) (arg8 : Memref sig .tc .vmem S12x1 .f32) (harg8 : arg8.IsWhole) (arg9 : Memref sig .tc .vmem S12x1 .f32) (harg9 : arg9.IsWhole) (arg10 : Memref sig .tc .vmem S12x1 .f32) (harg10 : arg10.IsWhole) (arg11 : Memref sig .tc .vmem S12x256 .f32) (harg11 : arg11.IsWhole) (arg12 : Memref sig .tc .vmem S12x1 .f32) (harg12 : arg12.IsWhole) (arg13 : Memref sig .tc .vmem S96x128 .f32) (harg13 : arg13.IsWhole) (arg14 : Memref sig .tc .vmem S96x128 .f32) (harg14 : arg14.IsWhole) (arg15 : Memref sig .tc .vmem S96x128 .f32) (harg15 : arg15.IsWhole) (arg16 : Memref sig .tc .vmem S96x128 .f32) (harg16 : arg16.IsWhole) (arg17 : Memref sig .tc .vmem S304x128 .f32) (harg17 : arg17.IsWhole) (arg18 : Memref sig .tc .vmem S6x96x128 .f32) (harg18 : arg18.IsWhole)

/-- One trip's yield is `Tab.next`. -/
theorem tripR_eq (T : Tab F) (k : Fin k0_t1_loop.trips) (sc : FVec F S96x128 .f32) :
    tripR_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T.w T.h T.xc T.yc T.x1 T.y1 T.x2 T.y2 T.area k0_pay44 lanes negInf 0#32 k sc = T.next sc := by
  unfold tripR_k0_t1 trip_k0_t1
  rfl

/-- One trip writes one piece, `Tab.row`, at row `k`. -/
theorem tripL_eq (T : Tab F) (k : Fin k0_t1_loop.trips) (sc : FVec F S96x128 .f32) :
    tripL_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T.w T.h T.xc T.yc T.x1 T.y1 T.x2 T.y2 T.area k0_pay44 lanes negInf 0#32 k sc
      = [⟨Rect.unit (s := S304x128) (k0_off1 k) S1x128.size (k0_off1_inb k), T.row sc⟩] := by
  unfold tripL_k0_t1 trip_k0_t1
  rfl

/-- The scores before trip `k`, from the initial scores `s0`. -/
def Tab.sc (T : Tab F) (s0 : FVec F S96x128 .f32) : ℕ → FVec F S96x128 .f32
  | 0 => s0
  | k + 1 => T.next (T.sc s0 k)

/-- The pieces the trips before `k` store, the last first. -/
def Tab.pieces (T : Tab F) (s0 : FVec F S96x128 .f32) : ℕ → List (View.Piece (Elt F) S304x128 .f32)
  | 0 => []
  | k + 1 =>
    if h : k < k0_t1_loop.trips then
      ⟨Rect.unit (s := S304x128) (k0_off1 ⟨k, h⟩) S1x128.size (k0_off1_inb ⟨k, h⟩), T.row (T.sc s0 k)⟩ :: T.pieces s0 k
    else T.pieces s0 k

/-- The loop's state before trip `k` is `Tab.sc` and `Tab.pieces`. -/
theorem state_eq (T : Tab F) (s0 : FVec F S96x128 .f32) (k : ℕ) (hk : k ≤ k0_t1_loop.trips) :
    st_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T.w T.h T.xc T.yc T.x1 T.y1 T.x2 T.y2 T.area k0_pay44 lanes negInf 0#32 s0 k = (T.sc s0 k, T.pieces s0 k) := by
  induction k with
  | zero => rfl
  | succ k ih =>
    have h : k < k0_t1_loop.trips := hk
    refine (st_k0_t1_succ (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 T.w T.h T.xc T.yc T.x1 T.y1 T.x2 T.y2 T.area k0_pay44 lanes negInf 0#32 s0 ⟨k, h⟩).trans ?_
    rw [tripR_eq, tripL_eq, ih h.le]
    simp only [Tab.sc, Tab.pieces, dif_pos h, List.singleton_append]

end Trip

/-- The loop makes 300 trips. -/
theorem trips_eq : k0_t1_loop.trips = 300 := by decide

/-- Row `r` of what the trips before `k` store, `r < k`, is trip `r`'s row. -/
theorem pieces_read {κ : Kind} {sp : Space} (v : View sig κ sp S304x128 .f32) (f : v.ty.Contents (Elt F)) (T : Tab F)
    (s0 : FVec F S96x128 .f32) (k : ℕ) (hk : k ≤ 300) (r : Fin 304) (l : Fin 128) (hr : r.val < k) :
    v.read (Elt F) (v.writes (Elt F) f (T.pieces s0 k)) (ix2 r l) = T.row (T.sc s0 r.val) (ix2 0 l) := by
  induction k with
  | zero => omega
  | succ k ih =>
    have h : k < k0_t1_loop.trips := by rw [trips_eq]; omega
    simp only [Tab.pieces, dif_pos h]
    by_cases e : r.val = k
    · rw [e]
      refine View.read_writes_cons_rows_of_mem v f (o := k) _ (T.row (T.sc s0 k)) _ (ix2 r l) (ix2 0 l) (k0_off1_eq ⟨k, h⟩) ?_ rfl
      exact e
    · rw [View.read_writes_cons_rows_of_not_mem v f (o := k) (W := 1) _ _ _ (ix2 r l) (k0_off1_eq ⟨k, h⟩) rfl
        (Or.inl (show r.val < k by omega))]
      exact ih (by omega) (by omega)

end Cert.Proof

end
-- ==== Proof.Body.lean ====
module

public import proofs.«01_k».proof.Proof.Nms
public import Idealize.ShloMosaic.Lib.VecWindow

/-! The trunk kernel's body, run: what its first output window holds afterwards, as a pure function of what the seventeen
    input windows hold. -/

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the input windows hold. -/
structure Ins (F : FTy → Type) where
  /-- the 3 × 3 patches of the features -/
  x0 : Vec F S4608x1024 .f32
  /-- the trunk filter -/
  x1 : Vec F S256x4608 .f32
  /-- the trunk bias -/
  x2 : Vec F S256x1 .f32
  /-- the filter of the x offsets -/
  x3 : Vec F S12x256 .f32
  /-- the filter of the y offsets -/
  x4 : Vec F S12x256 .f32
  /-- the filter of the log widths -/
  x5 : Vec F S12x256 .f32
  /-- the filter of the log heights -/
  x6 : Vec F S12x256 .f32
  /-- the bias of the x offsets -/
  x7 : Vec F S12x1 .f32
  /-- the bias of the y offsets -/
  x8 : Vec F S12x1 .f32
  /-- the bias of the log widths -/
  x9 : Vec F S12x1 .f32
  /-- the bias of the log heights -/
  x10 : Vec F S12x1 .f32
  /-- the filter of the scores -/
  x11 : Vec F S12x256 .f32
  /-- the bias of the scores -/
  x12 : Vec F S12x1 .f32
  /-- the anchor centres, x -/
  x13 : Vec F S96x128 .f32
  /-- the anchor centres, y -/
  x14 : Vec F S96x128 .f32
  /-- the anchor widths -/
  x15 : Vec F S96x128 .f32
  /-- the anchor heights -/
  x16 : Vec F S96x128 .f32

namespace Ins

variable (I : Ins F)

/-- The trunk's features: 256 channels over 1024 positions. -/
def trunk : FVec F S256x1024 .f32 := k0_pay16 I.x1 I.x0 I.x2
/-- The predicted x offsets. -/
def dx : FVec F S96x128 .f32 := k0_pay17 I.x1 I.x0 I.x2 I.x3 I.x7
/-- The predicted y offsets. -/
def dy : FVec F S96x128 .f32 := k0_pay18 I.x1 I.x0 I.x2 I.x4 I.x8
/-- The predicted log widths. -/
def dw : FVec F S96x128 .f32 := k0_pay19 I.x1 I.x0 I.x2 I.x5 I.x9
/-- The scores before invalid boxes are ruled out. -/
def logit : FVec F S96x128 .f32 := k0_pay20 I.trunk I.x11 I.x12
/-- The box centres, x. -/
def cx : FVec F S96x128 .f32 := k0_pay23 I.dx I.x13 I.x15
/-- The box centres, y. -/
def cy : FVec F S96x128 .f32 := k0_pay24 I.dy I.x14 I.x16
/-- The box widths. -/
def bw : FVec F S96x128 .f32 := k0_pay25 I.dw I.x15
/-- The box heights. -/
def bh : FVec F S96x128 .f32 := k0_pay26 I.trunk I.x6 I.x10 I.x16
/-- The clipped left edge. -/
def left : FVec F S96x128 .f32 := k0_pay27 I.dx I.dw I.x13 I.x15

/-- The loop's tables of the clipped boxes. -/
def tab : Tab F where
  w := k0_pay32 I.cx I.bw I.left
  h := k0_pay33 I.cy I.bh k0_pay28
  xc := k0_pay35 I.cx I.bw I.left
  yc := k0_pay36 I.cy I.bh k0_pay28
  x1 := k0_pay37 I.cx I.bw I.left
  y1 := k0_pay38 I.cy I.bh k0_pay28
  x2 := k0_pay39 I.cx I.bw I.left
  y2 := k0_pay41 (k0_pay36 I.cy I.bh k0_pay28) (k0_pay40 I.cy I.bh k0_pay28)
  area := k0_pay42 (k0_pay36 I.cy I.bh k0_pay28) (k0_pay37 I.cx I.bw I.left) (k0_pay38 I.cy I.bh k0_pay28)
    (k0_pay39 I.cx I.bw I.left) (k0_pay40 I.cy I.bh k0_pay28)

/-- The scores the loop starts from. -/
def score0 : FVec F S96x128 .f32 := k0_pay43 I.logit (k0_pay34 I.cx I.cy I.bw I.bh I.left k0_pay28)

/-- The first output window holds the loop's rows: row `r < 300` is trip `r`'s. -/
def Rows (X : Vec F S304x128 .f32) : Prop :=
  ∀ (r : Fin 304) (l : Fin 128), r.val < 300 → X (ix2 r l) = I.tab.row (I.tab.sc I.score0 r.val) (ix2 0 l)

end Ins

set_option maxHeartbeats 4000000 in
/-- The body's triple: on whole staging memrefs, the inputs' at `I`, the outputs' at anything, the body runs to the
    continuation holding the inputs' as they were and the first output's at contents whose first 300 rows are `Ins.Rows`. -/
theorem bodyRun (c : Dev nD) (arg0 : Memref sig .tc .vmem S4608x1024 .f32) (harg0 : arg0.IsWhole) (arg1 : Memref sig .tc .vmem S256x4608 .f32) (harg1 : arg1.IsWhole) (arg2 : Memref sig .tc .vmem S256x1 .f32) (harg2 : arg2.IsWhole) (arg3 : Memref sig .tc .vmem S12x256 .f32) (harg3 : arg3.IsWhole) (arg4 : Memref sig .tc .vmem S12x256 .f32) (harg4 : arg4.IsWhole) (arg5 : Memref sig .tc .vmem S12x256 .f32) (harg5 : arg5.IsWhole) (arg6 : Memref sig .tc .vmem S12x256 .f32) (harg6 : arg6.IsWhole) (arg7 : Memref sig .tc .vmem S12x1 .f32) (harg7 : arg7.IsWhole) (arg8 : Memref sig .tc .vmem S12x1 .f32) (harg8 : arg8.IsWhole) (arg9 : Memref sig .tc .vmem S12x1 .f32) (harg9 : arg9.IsWhole) (arg10 : Memref sig .tc .vmem S12x1 .f32) (harg10 : arg10.IsWhole) (arg11 : Memref sig .tc .vmem S12x256 .f32) (harg11 : arg11.IsWhole) (arg12 : Memref sig .tc .vmem S12x1 .f32) (harg12 : arg12.IsWhole) (arg13 : Memref sig .tc .vmem S96x128 .f32) (harg13 : arg13.IsWhole) (arg14 : Memref sig .tc .vmem S96x128 .f32) (harg14 : arg14.IsWhole) (arg15 : Memref sig .tc .vmem S96x128 .f32) (harg15 : arg15.IsWhole) (arg16 : Memref sig .tc .vmem S96x128 .f32) (harg16 : arg16.IsWhole) (arg17 : Memref sig .tc .vmem S304x128 .f32) (harg17 : arg17.IsWhole) (arg18 : Memref sig .tc .vmem S6x96x128 .f32) (harg18 : arg18.IsWhole)
    (I : Ins F) :
      ∀ (E : Set ℕ) (K : PUnit → sProp 𝕄),
        iprop(owns (c : Thread nD τ) arg0 fullShare I.x0 ∗ owns (c : Thread nD τ) arg1 fullShare I.x1 ∗ owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ owns (c : Thread nD τ) arg7 fullShare I.x7 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg16 fullShare I.x16 ∗ (∃ d, owns (c : Thread nD τ) arg17 fullShare d) ∗ (∃ d, owns (c : Thread nD τ) arg18 fullShare d)
            ∗ (iprop(owns (c : Thread nD τ) arg0 fullShare I.x0 ∗ owns (c : Thread nD τ) arg1 fullShare I.x1 ∗ owns (c : Thread nD τ) arg2 fullShare I.x2 ∗ owns (c : Thread nD τ) arg3 fullShare I.x3 ∗ owns (c : Thread nD τ) arg4 fullShare I.x4 ∗ owns (c : Thread nD τ) arg5 fullShare I.x5 ∗ owns (c : Thread nD τ) arg6 fullShare I.x6 ∗ owns (c : Thread nD τ) arg7 fullShare I.x7 ∗ owns (c : Thread nD τ) arg8 fullShare I.x8 ∗ owns (c : Thread nD τ) arg9 fullShare I.x9 ∗ owns (c : Thread nD τ) arg10 fullShare I.x10 ∗ owns (c : Thread nD τ) arg11 fullShare I.x11 ∗ owns (c : Thread nD τ) arg12 fullShare I.x12 ∗ owns (c : Thread nD τ) arg13 fullShare I.x13 ∗ owns (c : Thread nD τ) arg14 fullShare I.x14 ∗ owns (c : Thread nD τ) arg15 fullShare I.x15 ∗ owns (c : Thread nD τ) arg16 fullShare I.x16 ∗ (∃ X, ⌜I.Rows X⌝ ∗ owns (c : Thread nD τ) arg17 fullShare X) ∗ (∃ d, owns (c : Thread nD τ) arg18 fullShare d)) -∗ K ⟨⟩))
          ⊢ wp frame (wpE (defs₀ (F := F)) Variants.none c none) E (cc0__trunk_nms_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__trunk_nms_body_eq_skeleton]; unfold cc0__trunk_nms_body_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; swap
      · iexists _; isplitr; swap
        · iexact H17
        · ipureintro; rfl
      · ipureintro
        intro r l hr
        repeat delta bodyRun.sl.r_21 bodyRun.sl.r_20 bodyRun.sl.r_19 bodyRun.sl.r_18 bodyRun.sl.r_17 bodyRun.sl.r_16 bodyRun.sl.r_15 bodyRun.sl.r_14 bodyRun.sl.r_13 bodyRun.sl.r_12 bodyRun.sl.r_11 bodyRun.sl.r_10 bodyRun.sl.r_9 bodyRun.sl.r_8 bodyRun.sl.r_7 bodyRun.sl.r_6 bodyRun.sl.r_5 bodyRun.sl.r_4 bodyRun.sl.r_3 bodyRun.sl.r_2 bodyRun.sl.r_1 bodyRun.sl.r
        rw [show View.readAt (Elt F) arg0.view (Rect.unit ![0, 0] S4608x1024.size inb_S4608x1024_S4608x1024_0_0).toLoadRect (harg0.unread I.x0) = I.x0 from
          (View.readAt_full _ _ _).trans (harg0.read_unread _)]
        rw [show View.readAt (Elt F) arg1.view (Rect.unit ![0, 0] S256x4608.size inb_S256x4608_S256x4608_0_0).toLoadRect (harg1.unread I.x1) = I.x1 from
          (View.readAt_full _ _ _).trans (harg1.read_unread _)]
        rw [show View.readAt (Elt F) arg2.view (Rect.unit ![0, 0] S256x1.size inb_S256x1_S256x1_0_0).toLoadRect (harg2.unread I.x2) = I.x2 from
          (View.readAt_full _ _ _).trans (harg2.read_unread _)]
        rw [show View.readAt (Elt F) arg3.view (Rect.unit ![0, 0] S12x256.size inb_S12x256_S12x256_0_0).toLoadRect (harg3.unread I.x3) = I.x3 from
          (View.readAt_full _ _ _).trans (harg3.read_unread _)]
        rw [show View.readAt (Elt F) arg4.view (Rect.unit ![0, 0] S12x256.size inb_S12x256_S12x256_0_0).toLoadRect (harg4.unread I.x4) = I.x4 from
          (View.readAt_full _ _ _).trans (harg4.read_unread _)]
        rw [show View.readAt (Elt F) arg5.view (Rect.unit ![0, 0] S12x256.size inb_S12x256_S12x256_0_0).toLoadRect (harg5.unread I.x5) = I.x5 from
          (View.readAt_full _ _ _).trans (harg5.read_unread _)]
        rw [show View.readAt (Elt F) arg6.view (Rect.unit ![0, 0] S12x256.size inb_S12x256_S12x256_0_0).toLoadRect (harg6.unread I.x6) = I.x6 from
          (View.readAt_full _ _ _).trans (harg6.read_unread _)]
        rw [show View.readAt (Elt F) arg7.view (Rect.unit ![0, 0] S12x1.size inb_S12x1_S12x1_0_0).toLoadRect (harg7.unread I.x7) = I.x7 from
          (View.readAt_full _ _ _).trans (harg7.read_unread _)]
        rw [show View.readAt (Elt F) arg8.view (Rect.unit ![0, 0] S12x1.size inb_S12x1_S12x1_0_0).toLoadRect (harg8.unread I.x8) = I.x8 from
          (View.readAt_full _ _ _).trans (harg8.read_unread _)]
        rw [show View.readAt (Elt F) arg9.view (Rect.unit ![0, 0] S12x1.size inb_S12x1_S12x1_0_0).toLoadRect (harg9.unread I.x9) = I.x9 from
          (View.readAt_full _ _ _).trans (harg9.read_unread _)]
        rw [show View.readAt (Elt F) arg10.view (Rect.unit ![0, 0] S12x1.size inb_S12x1_S12x1_0_0).toLoadRect (harg10.unread I.x10) = I.x10 from
          (View.readAt_full _ _ _).trans (harg10.read_unread _)]
        rw [show View.readAt (Elt F) arg11.view (Rect.unit ![0, 0] S12x256.size inb_S12x256_S12x256_0_0).toLoadRect (harg11.unread I.x11) = I.x11 from
          (View.readAt_full _ _ _).trans (harg11.read_unread _)]
        rw [show View.readAt (Elt F) arg12.view (Rect.unit ![0, 0] S12x1.size inb_S12x1_S12x1_0_0).toLoadRect (harg12.unread I.x12) = I.x12 from
          (View.readAt_full _ _ _).trans (harg12.read_unread _)]
        rw [show View.readAt (Elt F) arg13.view (Rect.unit ![0, 0] S96x128.size inb_S96x128_S96x128_0_0).toLoadRect (harg13.unread I.x13) = I.x13 from
          (View.readAt_full _ _ _).trans (harg13.read_unread _)]
        rw [show View.readAt (Elt F) arg14.view (Rect.unit ![0, 0] S96x128.size inb_S96x128_S96x128_0_0).toLoadRect (harg14.unread I.x14) = I.x14 from
          (View.readAt_full _ _ _).trans (harg14.read_unread _)]
        rw [show View.readAt (Elt F) arg15.view (Rect.unit ![0, 0] S96x128.size inb_S96x128_S96x128_0_0).toLoadRect (harg15.unread I.x15) = I.x15 from
          (View.readAt_full _ _ _).trans (harg15.read_unread _)]
        rw [show View.readAt (Elt F) arg16.view (Rect.unit ![0, 0] S96x128.size inb_S96x128_S96x128_0_0).toLoadRect (harg16.unread I.x16) = I.x16 from
          (View.readAt_full _ _ _).trans (harg16.read_unread _)]
        refine (congrArg (fun s => arg17.view.read (Elt F) (arg17.view.writes (Elt F) f17 s.2) (ix2 r l))
          (state_eq c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I.tab I.score0 k0_t1_loop.trips le_rfl)).trans ?_
        rw [trips_eq]
        exact pieces_read arg17.view f17 I.tab I.score0 300 le_rfl r l hr
    iexists _, _; isplitr; swap; · iexact H18
    ipureintro; rfl

end Cert.Proof

end
-- ==== Proof.Data.lean ====
module

public import proofs.«01_k».proof.Proof.Body
public import Idealize.ShloMosaic.Lib.Pipeline.DatRel

/-! The trunk kernel's launch, first half: the proof data of its one pipeline, whose first output window is held to
    `Ins.Rows` (of the second nothing is named), and the body obligation. -/

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's current staging memref at point `t`, as the pipeline passes it. -/

abbrev ms0_0 (t : Fin cfg0.N) : Memref sig .tc .vmem S4608x1024 .f32 := win0_0.stage (cfg0.slots t 0)
abbrev ms0_1 (t : Fin cfg0.N) : Memref sig .tc .vmem S256x4608 .f32 := win0_1.stage (cfg0.slots t 1)
abbrev ms0_2 (t : Fin cfg0.N) : Memref sig .tc .vmem S256x1 .f32 := win0_2.stage (cfg0.slots t 2)
abbrev ms0_3 (t : Fin cfg0.N) : Memref sig .tc .vmem S12x256 .f32 := win0_3.stage (cfg0.slots t 3)
abbrev ms0_4 (t : Fin cfg0.N) : Memref sig .tc .vmem S12x256 .f32 := win0_4.stage (cfg0.slots t 4)
abbrev ms0_5 (t : Fin cfg0.N) : Memref sig .tc .vmem S12x256 .f32 := win0_5.stage (cfg0.slots t 5)
abbrev ms0_6 (t : Fin cfg0.N) : Memref sig .tc .vmem S12x256 .f32 := win0_6.stage (cfg0.slots t 6)
abbrev ms0_7 (t : Fin cfg0.N) : Memref sig .tc .vmem S12x1 .f32 := win0_7.stage (cfg0.slots t 7)
abbrev ms0_8 (t : Fin cfg0.N) : Memref sig .tc .vmem S12x1 .f32 := win0_8.stage (cfg0.slots t 8)
abbrev ms0_9 (t : Fin cfg0.N) : Memref sig .tc .vmem S12x1 .f32 := win0_9.stage (cfg0.slots t 9)
abbrev ms0_10 (t : Fin cfg0.N) : Memref sig .tc .vmem S12x1 .f32 := win0_10.stage (cfg0.slots t 10)
abbrev ms0_11 (t : Fin cfg0.N) : Memref sig .tc .vmem S12x256 .f32 := win0_11.stage (cfg0.slots t 11)
abbrev ms0_12 (t : Fin cfg0.N) : Memref sig .tc .vmem S12x1 .f32 := win0_12.stage (cfg0.slots t 12)
abbrev ms0_13 (t : Fin cfg0.N) : Memref sig .tc .vmem S96x128 .f32 := win0_13.stage (cfg0.slots t 13)
abbrev ms0_14 (t : Fin cfg0.N) : Memref sig .tc .vmem S96x128 .f32 := win0_14.stage (cfg0.slots t 14)
abbrev ms0_15 (t : Fin cfg0.N) : Memref sig .tc .vmem S96x128 .f32 := win0_15.stage (cfg0.slots t 15)
abbrev ms0_16 (t : Fin cfg0.N) : Memref sig .tc .vmem S96x128 .f32 := win0_16.stage (cfg0.slots t 16)
abbrev ms0_17 (t : Fin cfg0.N) : Memref sig .tc .vmem S304x128 .f32 := win0_17.stage (cfg0.slots t 17)
abbrev ms0_18 (t : Fin cfg0.N) : Memref sig .tc .vmem S6x96x128 .f32 := win0_18.stage (cfg0.slots t 18)

/-- The output windows held to a relation. -/
def forgets0 : Fin 19 → Bool := fun w => w.val == 17 || w.val == 18

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- The seventeen blocks the body reads at point `t`. -/
def insAt (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t

theorem insAt_x0 (c : Dev nD) (t : Fin cfg0.N) : (insAt m c t).x0 = iblk m c 0 t := rfl
theorem insAt_x1 (c : Dev nD) (t : Fin cfg0.N) : (insAt m c t).x1 = iblk m c 1 t := rfl
theorem insAt_x2 (c : Dev nD) (t : Fin cfg0.N) : (insAt m c t).x2 = iblk m c 2 t := rfl
theorem insAt_x3 (c : Dev nD) (t : Fin cfg0.N) : (insAt m c t).x3 = iblk m c 3 t := rfl
theorem insAt_x4 (c : Dev nD) (t : Fin cfg0.N) : (insAt m c t).x4 = iblk m c 4 t := rfl
theorem insAt_x5 (c : Dev nD) (t : Fin cfg0.N) : (insAt m c t).x5 = iblk m c 5 t := rfl
theorem insAt_x6 (c : Dev nD) (t : Fin cfg0.N) : (insAt m c t).x6 = iblk m c 6 t := rfl
theorem insAt_x7 (c : Dev nD) (t : Fin cfg0.N) : (insAt m c t).x7 = iblk m c 7 t := rfl
theorem insAt_x8 (c : Dev nD) (t : Fin cfg0.N) : (insAt m c t).x8 = iblk m c 8 t := rfl
theorem insAt_x9 (c : Dev nD) (t : Fin cfg0.N) : (insAt m c t).x9 = iblk m c 9 t := rfl
theorem insAt_x10 (c : Dev nD) (t : Fin cfg0.N) : (insAt m c t).x10 = iblk m c 10 t := rfl
theorem insAt_x11 (c : Dev nD) (t : Fin cfg0.N) : (insAt m c t).x11 = iblk m c 11 t := rfl
theorem insAt_x12 (c : Dev nD) (t : Fin cfg0.N) : (insAt m c t).x12 = iblk m c 12 t := rfl
theorem insAt_x13 (c : Dev nD) (t : Fin cfg0.N) : (insAt m c t).x13 = iblk m c 13 t := rfl
theorem insAt_x14 (c : Dev nD) (t : Fin cfg0.N) : (insAt m c t).x14 = iblk m c 14 t := rfl
theorem insAt_x15 (c : Dev nD) (t : Fin cfg0.N) : (insAt m c t).x15 = iblk m c 15 t := rfl
theorem insAt_x16 (c : Dev nD) (t : Fin cfg0.N) : (insAt m c t).x16 = iblk m c 16 t := rfl

/-- What is named of the windows held to a relation: of window 17 its first 300 rows. -/
def rel (c : Dev nD) (w : Fin cfg0.W) (t : Fin cfg0.N) : ((cfg0.win w).block.Idx → Elt F (cfg0.win w).elt) → Prop :=
  match w with
  | ⟨17, _⟩ => fun X => (insAt m c t).Rows X
  | _ => fun _ => True

/-- The proof data the launch runs on. -/
def rdat (c : Dev nD) : Pipeline.RDat τ (Elt F) Unit ℕ (UR sig nD τ) ℕ cfg0 c := (dats m 0 c).toRRel forgets0 (rel m c)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ Y, ⌜(rdat m c).Finds 17 t Y⌝ ∗ owns (c : Thread nD τ) (ms0_17 t) fullShare Y)
    ∗ (∃ Y, ⌜(rdat m c).Finds 18 t Y⌝ ∗ owns (c : Thread nD τ) (ms0_18 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ X, ⌜(insAt m c t).Rows X⌝ ∗ owns (c : Thread nD τ) (ms0_17 t) fullShare X)
    ∗ (∃ X, ⌜True⌝ ∗ owns (c : Thread nD τ) (ms0_18 t) fullShare X))

set_option maxHeartbeats 1600000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, -, H17⟩, ⟨%d18, -, H18⟩⟩
  have hrun := fun K => bodyRun c (ms0_0 t) (hstage0_0 0) (ms0_1 t) (hstage0_1 0) (ms0_2 t) (hstage0_2 0) (ms0_3 t) (hstage0_3 0) (ms0_4 t) (hstage0_4 0) (ms0_5 t) (hstage0_5 0) (ms0_6 t) (hstage0_6 0) (ms0_7 t) (hstage0_7 0) (ms0_8 t) (hstage0_8 0) (ms0_9 t) (hstage0_9 0) (ms0_10 t) (hstage0_10 0) (ms0_11 t) (hstage0_11 0) (ms0_12 t) (hstage0_12 0) (ms0_13 t) (hstage0_13 0) (ms0_14 t) (hstage0_14 0) (ms0_15 t) (hstage0_15 0) (ms0_16 t) (hstage0_16 0) (ms0_17 t) (hstage0_17 0) (ms0_18 t) (hstage0_18 0) (insAt m c t) Set.univ K
  simp only [insAt_x0, insAt_x1, insAt_x2, insAt_x3, insAt_x4, insAt_x5, insAt_x6, insAt_x7, insAt_x8, insAt_x9, insAt_x10, insAt_x11, insAt_x12, insAt_x13, insAt_x14, insAt_x15, insAt_x16] at hrun
  iapply (hrun _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  icases H18 with ⟨%X, H18⟩
  iexists X; isplitr; · ipureintro; trivial
  iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the relational data, at every point. -/
theorem body_obligation (c : Dev nD) : (rdat m c).BodyObligation (defs₀ (F := F)) Variants.none () Set.univ := by
  refine Pipeline.BodyObligationRel.toRRel (dats m 0 c) (fgt := forgets0) (Rl := rel m c) fun t => ?_
  rw [bigSep_W0, bigSep_W0, defs₀_row]
  exact triple_restated (sound_body m c t) rfl .rfl fun _ => .rfl

end Cert.Proof

end
-- ==== Proof.Launch.lean ====
module

public import proofs.«01_k».proof.Proof.Data

/-! The trunk kernel's launch, second half: the run of the whole program. Each array of the pipeline ends at contents it may
    hold after the write-back, and the host lines after the call run over those. -/

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one pipeline, as a family with no prefetched table. -/
abbrev fam : Fin 1 → PCfg sig Λ₀ (Elt F) := fun q => (cfgs q).toPCfg

/-- The family's one admissible table. -/
abbrev adm : (q : Fin 1) → (fam (F := F) q).Adm := fun q => (cfgs q).toPCfg_adm

/-- The buffers' contents after the host lines that follow the call, when the call leaves the arrays at `A`. -/
abbrev tailV (c : Dev nD) (A : (w : Fin cfg0.W) → Buf (Elt F) ((cfg0.win w).arr.view.loc (c.tc : Thread nD τ))) :
    Valuation τ sig (Elt F) :=
  StableHlo.after [hostOps1].flatten (withArrays spec0 c (V0 m c) A)

/-- What the run ends with on core `c`: arrays that the pipeline may leave, and the other buffers after the last host lines. -/
def Ends (c : Dev nD) (s : MemSt nD τ sig (Elt F)) : Prop :=
  ∃ A : (w : Fin cfg0.W) → Buf (Elt F) ((cfg0.win w).arr.view.loc (c.tc : Thread nD τ)),
    (∀ w, (rdat m c).ArrAt w cfg0.N (A w)) ∧
      ∀ b ∈ restRefsP sig (fam (F := F) 0).pre spec0, s.mem ((c.tc : Thread nD τ).loc b) = tailV m c A (Proc.devRef .tc b)

theorem A_eq' (c : Dev nD) (w : Fin cfg0.W) : (rdat m c).A w = V0 m c (Proc.devRef .tc (arrRef spec0 w)) := A_eq m c w

theorem q_eq (c : Dev nD) (w : Fin cfg0.W) (hw : (spec0 w).isOut = false) : (rdat m c).q w = shareOf spec0 w :=
  (rdat m c).q_eq_shareOf_of_share_full launch0.win.arr_inj ((dats m 0 c).share_full fun _ => rfl) w hw

/-- The arrays after every write-back, opened: at some contents they may hold. -/
theorem arrays_open (c : Dev nD) : ((rdat m c).arraysAt cfg0.N : sProp 𝕄)
    ⊢ iprop(∃ A, ⌜∀ w, (rdat m c).ArrAt w cfg0.N (A w)⌝ ∗ (rdat m c).arrays A) := by
  unfold RDat.arraysAt
  iintro Ha
  ihave Ha' := (BI.bigSep_exists_pi Finset.univ (fun w F => iprop(⌜(rdat m c).ArrAt w cfg0.N F⌝
      ∗ (cfg0.win w).arr.view.loc (c.tc : Thread nD τ) ↦[(cfg0.win w).arr.view.set]{(rdat m c).share w} F))) $$ Ha
  icases Ha' with ⟨%A, Ha⟩
  ihave Ha2 := (BI.bigSep_pure_sep Finset.univ (fun w => (rdat m c).ArrAt w cfg0.N (A w))
      (fun w => (cfg0.win w).arr.view.loc (c.tc : Thread nD τ) ↦[(cfg0.win w).arr.view.set]{(rdat m c).share w} A w)) $$ Ha
  icases Ha2 with ⟨%hA', Ha⟩
  iexists A; isplitr; · ipureintro; exact fun w => hA' w (Finset.mem_univ w)
  unfold RDat.arrays
  iexact Ha

/-- And closed again. -/
theorem arrays_close (c : Dev nD) (A) (hA : ∀ w, (rdat m c).ArrAt w cfg0.N (A w)) :
    ((rdat m c).arrays A : sProp 𝕄) ⊢ (rdat m c).arraysAt cfg0.N := by
  unfold RDat.arraysAt RDat.arrays
  refine BI.bigSep_mono fun w _ => ?_
  show ((cfg0.win w).arr.view.loc (c.tc : Thread nD τ) ↦[(cfg0.win w).arr.view.set]{(rdat m c).share w} A w : sProp 𝕄)
    ⊢ iprop(∃ F, ⌜(rdat m c).ArrAt w cfg0.N F⌝ ∗ (cfg0.win w).arr.view.loc (c.tc : Thread nD τ) ↦[(cfg0.win w).arr.view.set]{(rdat m c).share w} F)
  iintro H; iexists (A w); isplitr; · ipureintro; exact hA w
  iexact H

set_option backward.isDefEq.respectTransparency.types false in
set_option maxHeartbeats 3200000 in
/-- The run: every execution ends, with no semaphore raised and `Ends` on every core. -/
theorem run : θ_run defs (onTc (τ := τ) (main (F := F))) (s₀ m ρ) (fun r => (∀ c, Ends m c r.2) ∧ r.2.sem = fun _ => 0) := by
  classical
  have kit₀ := (launch0.toP (Val := Elt F)).to₀
  refine RDat.θ_run_region_pf_tail_quiescent fam adm (RDat.familyOf fam adm 0 (rdat m)) () (kit₀.cellOf_inj adm) 0 kit₀.win
    (OwnSemFacts.none spec0) kit₀.pre emb₁ defs₀ Variants.none m ρ main
    (fun _ => chain ([hostOps1].map StableHlo.seq)) (fun c => by rw [RDat.familyOf_self]; exact body_obligation m c)
    kit₀.block_pos kit₀.arr_whole kit₀.stage_whole (fun c t => by rw [RDat.familyOf_self]; rfl)
    (G := fun _ => iprop(emp)) (u₀ := initOf (cells (pin fam adm) (kit₀.cellOf_inj adm)) (launchToks (pin fam adm) (kit₀.cellOf_inj adm)))
    (hu₀ := by
      iintro Hu; imodintro
      isplitl [Hu]; · iapply (show (ownU _ : sProp 𝕄) ⊢ BI.own (emb₁ (initOf (cells (pin fam adm) (kit₀.cellOf_inj adm)) (launchToks (pin fam adm) (kit₀.cellOf_inj adm)))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [RDat.familyOf_self]; exact (rdat m c).arrays_split_shared kit₀.sharedIn kit₀.arr_whole (q_eq m c) (V m c) _ (A_eq' m c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) (fam (F := F) 0).pre spec0 c (V m c))
    (Z' := fun c => iprop(∃ A, ⌜∀ w, (rdat m c).ArrAt w cfg0.N (A w)⌝
      ∗ unscopedRestP (Ix := Unit) (Name := ℕ) (U := UR sig nD τ) (Lvl := ℕ) (fam (F := F) 0).pre spec0 c
          (fun b => tailV m c A (Proc.devRef .tc b))))
    (hX := fun c => by
      iintro ⟨HU, -, -, Hp, -⟩; imodintro
      isplitl [Hp]; · iexists _; iexact Hp
      iexact HU)
    (hin := fun c => by
      rw [RDat.familyOf_self]
      exact (show _ ⊢ ΦA spec0 c by
        unfold ΦA; iintro ⟨Hp, -, Hr⟩
        isplitl [Hr] <;> iassumption))
    (hout := fun c => by
      rw [RDat.familyOf_self]
      exact (show ΦA spec0 c ⊢ _ by
        rw [ownSems0_none]; unfold ΦA
        iintro ⟨Hr, Hp⟩
        isplitl [Hp]; · iexact Hp
        isplitr; · iempintro
        iexact Hr))
    (htail := fun c Q' => by
      rw [RDat.familyOf_self]
      iintro ⟨Hk, Hb, Ha, HZ⟩
      ihave Ha' := (arrays_open m c) $$ Ha
      icases Ha' with ⟨%A, %hA', Ha⟩
      have hB : (rdat m c).arrays A = arrBufs spec0 c (fun b => withArrays spec0 c (V0 m c) A (Proc.devRef .tc b)) :=
        ((rdat m c).arrBufs_eq_arrays kit₀.sharedIn kit₀.arr_whole (q_eq m c) _ A fun w =>
          (withArrays_arr_shared spec0 c (V0 m c) A ((rdat m c).ArrAt_sharedIn kit₀.sharedIn (V0 m c) (A_eq' m c) cfg0.N A hA') w).symm).symm
      iapply (tail_seqs_bufs_b fam defs₀ Variants.none (fam (F := F) 0).pre spec0 c (V0 m c) A [hostOps1] sfx_sub sfx_fresh sfx_keeps Q')
      isplitl [Hk]
      · iintro ⟨Hb2, Ha2, Hu⟩
        iapply Hk
        isplitl [Hb2]; · iexact Hb2
        isplitl [Ha2]; · iapply (arrays_close m c A hA'); iapply (Entails.of_eq hB.symm); iexact Ha2
        iexists A; isplitr
        · ipureintro; exact hA'
        · iexact Hu
      · isplitl [Hb]; · iexact Hb
        isplitl [Ha]; · iapply (Entails.of_eq hB); iexact Ha
        iexact HZ)
    (QY := fun c s => Ends m c s)
    (hY := fun c s' => by
      iintro ⟨-, HZ, HSI⟩
      icases HZ with ⟨%A, %hA', HZ⟩
      unfold unscopedRestP
      ihave HZ' := (pointsTo_read_all (restRefsP sig (fam (F := F) 0).pre spec0) (fun b => (c.tc : Thread nD τ).loc b)
        (fun b => tailV m c A (Proc.devRef .tc b)) s') $$ [HZ HSI]
      · isplitl [HZ] <;> iassumption
      icases HZ' with ⟨%hZ, HSI⟩
      imodintro
      isplitr
      · ipureintro; exact ⟨A, hA', fun b hb => hZ b hb⟩
      · iexact HSI)
    (hQ := fun s h hz => ⟨fun c => (h c).2.2, hz⟩)

end Cert.Proof

end
-- ==== Proof.Result.lean ====
module

public import proofs.«01_k».proof.Proof.Launch
public import Idealize.ShloMosaic.Lib.Pipeline.ArrRel
public import Idealize.ShloMosaic.Lib.Pipeline.ValueKit.Point
public import Idealize.ShloMosaic.Lib.StableHlo.RunRead

/-! What the run of the kernel's program ends with: the frame, and the two results as the rows of the suppression loop. -/

@[expose] public section

set_option maxRecDepth 16384

noncomputable section

namespace Cert.Proof

open Cert.KernelIdeal Cert.KernelIdeal.Gen
open Idealize.ShloMosaic Idealize.ShloMosaic.TcCoe Idealize.ShloMosaic.Tactic Idealize.ShloMosaic.ValueIdx
open Idealize.SL.Sem Idealize.ShloMosaic.Pipeline

variable {F : FTy → Type} [FloatOps F]

variable (m : (ℓ : Loc nD τ sig) → Buf (Elt F) ℓ) (ρ : Dev nD → PrngReg)

/-- What the host lines after the call write. -/
abbrev tailW : List (Ref sig .tc) := [main_v80, main_v81, main_v82]

theorem tail_writes : (hostOps1 : List (HloOp τ sig (Elt F))).Forall fun op => op.writes ⊆ (tailW.map (Proc.devRef (τ := τ) .tc)).toFinset :=
  StableHlo.forall_writes_sub_of_map rfl

/-- A buffer that is no window's array and that the last host lines do not write ends as the call found it. -/
theorem tail_keep {c : Dev nD} (A) (b : Ref sig .tc) (hb : b ∉ tailW) (hw : ∀ w, arrRef spec0 w ≠ b) :
    tailV m c A (Proc.devRef .tc b) = V m c b := by
  unfold tailV
  rw [List.flatten_cons, List.flatten_nil, List.append_nil, StableHlo.after_of_writes_sub _ _ tail_writes hb, withArrays_of_ne spec0 c (V0 m c) A b hw]

/-- An unscoped buffer that is no window's array bypasses the call. -/
theorem mem_rest (b : Ref sig .tc) (hr : b.isScoped = false) (hw : ∀ w, arrRef spec0 w ≠ b) :
    b ∈ restRefsP sig (fam (F := F) 0).pre spec0 :=
  Finset.mem_sdiff.mpr ⟨mem_restRefs_of b hr hw, fun h => by
    obtain ⟨k, -, -⟩ := Finset.mem_image.mp h
    exact k.elim0⟩

theorem end_arg {c : Dev nD} {s : MemSt nD τ sig (Elt F)} (b : Ref sig .tc) (hr : b.isScoped = false)
    (hb : b ∉ tailW) (hw : ∀ w, arrRef spec0 w ≠ b) (hV : V m c b = m ((c.tc : Thread nD τ).loc b)) (h : Ends m c s) :
    s.mem ((c.tc : Thread nD τ).loc b) = m ((c.tc : Thread nD τ).loc b) := by
  obtain ⟨A, -, hs⟩ := h
  exact (hs b (mem_rest b hr hw)).trans ((tail_keep m A b hb hw).trans hV)

/-- The frame: the program runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨end_arg m main_arg0 rfl (by decide) (by decide) (V_main_arg0 m c) (h.1 c), end_arg m main_arg1 rfl (by decide) (by decide) (V_main_arg1 m c) (h.1 c), end_arg m main_arg2 rfl (by decide) (by decide) (V_main_arg2 m c) (h.1 c), end_arg m main_arg3 rfl (by decide) (by decide) (V_main_arg3 m c) (h.1 c), end_arg m main_arg4 rfl (by decide) (by decide) (V_main_arg4 m c) (h.1 c), end_arg m main_arg5 rfl (by decide) (by decide) (V_main_arg5 m c) (h.1 c), end_arg m main_arg6 rfl (by decide) (by decide) (V_main_arg6 m c) (h.1 c)⟩, h.2⟩) (run m ρ)

/-- The one point of the grid. -/
abbrev pt : Fin cfg0.N := ⟨0, by decide⟩

/-- What the call reads: its arrays as the host lines before it leave them. -/
def insV (c : Dev nD) : Ins F where
  x0 := V m c main_v31
  x1 := V m c main_v33
  x2 := V m c main_v34
  x3 := V m c main_v36
  x4 := V m c main_v38
  x5 := V m c main_v40
  x6 := V m c main_v42
  x7 := V m c main_v44
  x8 := V m c main_v46
  x9 := V m c main_v48
  x10 := V m c main_v50
  x11 := V m c main_v51
  x12 := V m c main_v52
  x13 := V m c main_v65
  x14 := V m c main_v68
  x15 := V m c main_v73
  x16 := V m c main_v78

/-- A whole window's block is its array. -/
theorem iblk_0 (c : Dev nD) : iblk m c 0 pt = V m c main_v31 := by
  funext j
  unfold iblk
  show V m c main_v31 _ = V m c main_v31 j
  congr 1
  funext a
  apply Fin.ext
  blk_simp
  exact (congrArg (· + _) (Nat.zero_mul _)).trans (Nat.zero_add _)
theorem iblk_1 (c : Dev nD) : iblk m c 1 pt = V m c main_v33 := by
  funext j
  unfold iblk
  show V m c main_v33 _ = V m c main_v33 j
  congr 1
  funext a
  apply Fin.ext
  blk_simp
  exact (congrArg (· + _) (Nat.zero_mul _)).trans (Nat.zero_add _)
theorem iblk_2 (c : Dev nD) : iblk m c 2 pt = V m c main_v34 := by
  funext j
  unfold iblk
  show V m c main_v34 _ = V m c main_v34 j
  congr 1
  funext a
  apply Fin.ext
  blk_simp
  exact (congrArg (· + _) (Nat.zero_mul _)).trans (Nat.zero_add _)
theorem iblk_3 (c : Dev nD) : iblk m c 3 pt = V m c main_v36 := by
  funext j
  unfold iblk
  show V m c main_v36 _ = V m c main_v36 j
  congr 1
  funext a
  apply Fin.ext
  blk_simp
  exact (congrArg (· + _) (Nat.zero_mul _)).trans (Nat.zero_add _)
theorem iblk_4 (c : Dev nD) : iblk m c 4 pt = V m c main_v38 := by
  funext j
  unfold iblk
  show V m c main_v38 _ = V m c main_v38 j
  congr 1
  funext a
  apply Fin.ext
  blk_simp
  exact (congrArg (· + _) (Nat.zero_mul _)).trans (Nat.zero_add _)
theorem iblk_5 (c : Dev nD) : iblk m c 5 pt = V m c main_v40 := by
  funext j
  unfold iblk
  show V m c main_v40 _ = V m c main_v40 j
  congr 1
  funext a
  apply Fin.ext
  blk_simp
  exact (congrArg (· + _) (Nat.zero_mul _)).trans (Nat.zero_add _)
theorem iblk_6 (c : Dev nD) : iblk m c 6 pt = V m c main_v42 := by
  funext j
  unfold iblk
  show V m c main_v42 _ = V m c main_v42 j
  congr 1
  funext a
  apply Fin.ext
  blk_simp
  exact (congrArg (· + _) (Nat.zero_mul _)).trans (Nat.zero_add _)
theorem iblk_7 (c : Dev nD) : iblk m c 7 pt = V m c main_v44 := by
  funext j
  unfold iblk
  show V m c main_v44 _ = V m c main_v44 j
  congr 1
  funext a
  apply Fin.ext
  blk_simp
  exact (congrArg (· + _) (Nat.zero_mul _)).trans (Nat.zero_add _)
theorem iblk_8 (c : Dev nD) : iblk m c 8 pt = V m c main_v46 := by
  funext j
  unfold iblk
  show V m c main_v46 _ = V m c main_v46 j
  congr 1
  funext a
  apply Fin.ext
  blk_simp
  exact (congrArg (· + _) (Nat.zero_mul _)).trans (Nat.zero_add _)
theorem iblk_9 (c : Dev nD) : iblk m c 9 pt = V m c main_v48 := by
  funext j
  unfold iblk
  show V m c main_v48 _ = V m c main_v48 j
  congr 1
  funext a
  apply Fin.ext
  blk_simp
  exact (congrArg (· + _) (Nat.zero_mul _)).trans (Nat.zero_add _)
theorem iblk_10 (c : Dev nD) : iblk m c 10 pt = V m c main_v50 := by
  funext j
  unfold iblk
  show V m c main_v50 _ = V m c main_v50 j
  congr 1
  funext a
  apply Fin.ext
  blk_simp
  exact (congrArg (· + _) (Nat.zero_mul _)).trans (Nat.zero_add _)
theorem iblk_11 (c : Dev nD) : iblk m c 11 pt = V m c main_v51 := by
  funext j
  unfold iblk
  show V m c main_v51 _ = V m c main_v51 j
  congr 1
  funext a
  apply Fin.ext
  blk_simp
  exact (congrArg (· + _) (Nat.zero_mul _)).trans (Nat.zero_add _)
theorem iblk_12 (c : Dev nD) : iblk m c 12 pt = V m c main_v52 := by
  funext j
  unfold iblk
  show V m c main_v52 _ = V m c main_v52 j
  congr 1
  funext a
  apply Fin.ext
  blk_simp
  exact (congrArg (· + _) (Nat.zero_mul _)).trans (Nat.zero_add _)
theorem iblk_13 (c : Dev nD) : iblk m c 13 pt = V m c main_v65 := by
  funext j
  unfold iblk
  show V m c main_v65 _ = V m c main_v65 j
  congr 1
  funext a
  apply Fin.ext
  blk_simp
  exact (congrArg (· + _) (Nat.zero_mul _)).trans (Nat.zero_add _)
theorem iblk_14 (c : Dev nD) : iblk m c 14 pt = V m c main_v68 := by
  funext j
  unfold iblk
  show V m c main_v68 _ = V m c main_v68 j
  congr 1
  funext a
  apply Fin.ext
  blk_simp
  exact (congrArg (· + _) (Nat.zero_mul _)).trans (Nat.zero_add _)
theorem iblk_15 (c : Dev nD) : iblk m c 15 pt = V m c main_v73 := by
  funext j
  unfold iblk
  show V m c main_v73 _ = V m c main_v73 j
  congr 1
  funext a
  apply Fin.ext
  blk_simp
  exact (congrArg (· + _) (Nat.zero_mul _)).trans (Nat.zero_add _)
theorem iblk_16 (c : Dev nD) : iblk m c 16 pt = V m c main_v78 := by
  funext j
  unfold iblk
  show V m c main_v78 _ = V m c main_v78 j
  congr 1
  funext a
  apply Fin.ext
  blk_simp
  exact (congrArg (· + _) (Nat.zero_mul _)).trans (Nat.zero_add _)

theorem insAt_pt (c : Dev nD) : insAt m c pt = insV m c := by
  unfold insAt insV
  rw [iblk_0, iblk_1, iblk_2, iblk_3, iblk_4, iblk_5, iblk_6, iblk_7, iblk_8, iblk_9, iblk_10, iblk_11, iblk_12, iblk_13, iblk_14, iblk_15, iblk_16]

/-- The rows' array after the call. -/
theorem arr17 (c : Dev nD) (G) (hA : (rdat m c).ArrAt 17 cfg0.N G) (i : Fin 304) (l : Fin 128) (hi : i.val < 300) :
    (G : FVec F S304x128 .f32) (ValueIdx.ix2 i l)
      = (insV m c).tab.row ((insV m c).tab.sc (insV m c).score0 i.val) (ValueIdx.ix2 0 l) := by
  have hwa : (cfg0.win 17).WholeAt pt := by decide +kernel
  obtain ⟨X, hX, hG⟩ := hA.emb_eq_of_wholeAt hwa
  have hrows : (insAt m c pt).Rows X := (dats m 0 c).toRRel_leaves (fgt := forgets0) (Rl := rel m c) (w := 17) rfl hX
  rw [insAt_pt] at hrows
  exact (hG (ValueIdx.ix2 i l)).trans (hrows i l hi)

theorem with17 (c : Dev nD) (A) : withArrays spec0 c (V0 m c) A (Proc.devRef .tc main_v79_0) = A 17 :=
  withArrays_arr spec0 launch0.win.arr_inj c (V0 m c) A 17

theorem tail80 (c : Dev nD) (A) : tailV m c A (Proc.devRef .tc main_v80)
    = extractStridedSlice S300x4 ![0, 0] (A 17 : FVec F S304x128 .f32) slices_S304x128_S300x4_0_0 := by
  rw [← with17 m c A]
  unfold tailV
  simp only [hostOps1, List.flatten_cons, List.flatten_nil, List.append_nil]
  after_reads_simp

theorem tail82 (c : Dev nD) (A) : tailV m c A (Proc.devRef .tc main_v82)
    = shapeCast S300 (extractStridedSlice S300x1 ![0, 4] (A 17 : FVec F S304x128 .f32) slices_S304x128_S300x1_0_4) shapeCasts_S300x1_S300 := by
  rw [← with17 m c A]
  unfold tailV
  simp only [hostOps1, List.flatten_cons, List.flatten_nil, List.append_nil]
  after_reads_simp
  rfl

/-- The two results of a core that has ended are the rows of the suppression loop. -/
theorem results {c : Dev nD} {s : MemSt nD τ sig (Elt F)} (h : Ends m c s) :
    (∀ (i : Fin 300) (j : Fin 4), (s.mem ((c.tc : Thread nD τ).loc main_v80) : FVec F S300x4 .f32) (ValueIdx.ix2 i j)
        = (insV m c).tab.row ((insV m c).tab.sc (insV m c).score0 i.val) (ValueIdx.ix2 0 ⟨j.val, by omega⟩))
      ∧ (∀ i : Fin 300, (s.mem ((c.tc : Thread nD τ).loc main_v82) : FVec F S300 .f32) (ValueIdx.ix1 i)
        = (insV m c).tab.row ((insV m c).tab.sc (insV m c).score0 i.val) (ValueIdx.ix2 0 4)) := by
  obtain ⟨A, hA, hs⟩ := h
  have h80 := (hs main_v80 (mem_rest main_v80 rfl (by decide))).trans (tail80 m c A)
  have h82 := (hs main_v82 (mem_rest main_v82 rfl (by decide))).trans (tail82 m c A)
  refine ⟨fun i j => ?_, fun i => ?_⟩
  · rw [h80]
    rw [← arr17 m c (A 17) (hA 17) ⟨i.val, by omega⟩ ⟨j.val, by omega⟩ i.isLt]
    pointwise
    blk_ext
  · rw [h82]
    rw [← arr17 m c (A 17) (hA 17) ⟨i.val, by omega⟩ 4 i.isLt]
    pointwise
    blk_ext

end Cert.Proof

end
-- ==== Proof.First.lean ====
module

public import Idealize.ShloMosaic.PureOps.Ideal.Laws
public import Idealize.ShloMosaic.PureOps.Reduce
public import Idealize.ShloMosaic.Lib.SortNet.Extract
public import Idealize.ShloMosaic.Lib.StableHlo.Predicate

/-! The first index that holds the greatest of finitely many extended reals, and the two folds that find it. -/

@[expose] public section

namespace Cert.Proof

open Idealize.ShloMosaic

/-- `p` is the first index at which `g` is greatest. -/
def IsFirst {N : ℕ} (g : Fin N → EReal) (p : Fin N) : Prop := (∀ n, g n ≤ g p) ∧ ∀ n, g n = g p → p ≤ n

/-- There is one. -/
theorem exists_first {N : ℕ} [NeZero N] (g : Fin N → EReal) : ∃ p, IsFirst g p := by
  obtain ⟨q, hq⟩ := Finite.exists_max g
  have hne : (Finset.univ.filter fun n => g n = g q).Nonempty := ⟨q, by simp⟩
  obtain ⟨p, hp, hmin⟩ := Finset.exists_min_image _ id hne
  have e : g p = g q := (Finset.mem_filter.1 hp).2
  exact ⟨p, fun n => e ▸ hq n, fun n hn => hmin n (Finset.mem_filter.2 ⟨Finset.mem_univ _, hn.trans e⟩)⟩

/-- The fold of the maximum from minus infinity over every index is the greatest value. -/
theorem fold_max_first {ι : Type} [Fintype ι] (f : ι → EReal) (i : ι) (h : ∀ k, f k ≤ f i) :
    Finset.univ.fold max ⊥ f = f i :=
  le_antisymm (Finset.sup_le (s := Finset.univ) (f := f) fun k _ => h k) (Finset.le_sup (f := f) (Finset.mem_univ i))

/-- The fold of the signed minimum over every index is the least word. -/
theorem fold_min_first {ι : Type} [Fintype ι] [DecidableEq ι] (f : ι → BitVec 32) (init : BitVec 32) (i : ι)
    (hi : (f i).toInt ≤ init.toInt) (h : ∀ k, (f i).toInt ≤ (f k).toInt) :
    Finset.univ.fold IntOp.minsi init f = f i := by
  have key : ∀ s : Finset ι, (f i).toInt ≤ (s.fold IntOp.minsi init f).toInt ∧
      (i ∈ s → s.fold IntOp.minsi init f = f i) := by
    intro s
    induction s using Finset.induction_on with
    | empty => exact ⟨by rw [Finset.fold_empty]; exact hi, fun q => absurd q (Finset.notMem_empty i)⟩
    | insert a s has ih =>
      rw [Finset.fold_insert has]
      have hm := SortNet.toInt_minsi (f a) (s.fold IntOp.minsi init f)
      refine ⟨by rw [hm]; exact le_min (h a) ih.1, fun q => BitVec.eq_of_toInt_eq ?_⟩
      rw [hm]
      rcases Finset.mem_insert.1 q with rfl | q
      · exact min_eq_left ih.1
      · rw [ih.2 q]; exact min_eq_right (h a)
  exact (key Finset.univ).2 (Finset.mem_univ i)

/-- The first index of the greatest value, as the fold of the signed minimum over the numbers of the indices that hold it
    and a number past them all for the others. -/
theorem fold_pick {ι : Type} [Fintype ι] [DecidableEq ι] {N : ℕ} (e : ι ≃ Fin N) (g : Fin N → EReal) (p : Fin N)
    (hp : IsFirst g p) (init far : BitVec 32) (hN : N ≤ 2 ^ 30) (hinit : (2 : ℤ) ^ 30 ≤ init.toInt)
    (hfar : (N : ℤ) - 1 ≤ far.toInt) :
    Finset.univ.fold IntOp.minsi init
      (fun i => if g (e i) = g p then BitVec.ofNat 32 (e i).val else far) = BitVec.ofNat 32 p.val := by
  have small : ∀ n : Fin N, (BitVec.ofNat 32 n.val).toInt = n.val := fun n =>
    StableHlo.Predicate.toInt_ofNat_small _ (by have := n.isLt; omega)
  have hpp : (if g (e (e.symm p)) = g p then BitVec.ofNat 32 (e (e.symm p)).val else far) = BitVec.ofNat 32 p.val := by
    simp
  refine (fold_min_first _ init (e.symm p) ?_ ?_).trans hpp
  · show (if g (e (e.symm p)) = g p then BitVec.ofNat 32 (e (e.symm p)).val else far).toInt ≤ _
    rw [hpp, small]; have := p.isLt; omega
  · intro k
    show (if g (e (e.symm p)) = g p then BitVec.ofNat 32 (e (e.symm p)).val else far).toInt ≤ _
    rw [hpp, small]
    split
    · rename_i hk
      rw [small]; exact_mod_cast hp.2 _ hk
    · have := p.isLt; omega

/-- A fold over every index, through a bijection. -/
theorem fold_equiv {α β : Type} [Fintype α] [Fintype β] {γ : Type} (op : γ → γ → γ) [Std.Commutative op]
    [Std.Associative op] (b : γ) (e : α ≃ β) (f : β → γ) :
    Finset.univ.fold op b (fun i => f (e i)) = Finset.univ.fold op b f := by
  rw [← Finset.univ_map_equiv_to_embedding e, Finset.fold_map]; rfl

end Cert.Proof

end
-- ==== Proof.Trip.lean ====
module

public import proofs.«01_k».proof.Proof.Nms
public import proofs.«01_k».proof.Proof.First
public import Idealize.ShloMosaic.Lib.Pipeline.ValueKit.Point

/-! One trip of the kernel's counted loop at the extended reals: the box it picks, the scores it leaves and the row it
    stores, over the boxes numbered row by row. -/

@[expose] public section

set_option maxRecDepth 16384

noncomputable section

namespace Cert.Proof

open Cert.KernelIdeal Cert.KernelIdeal.Gen
open Idealize.ShloMosaic Idealize.ShloMosaic.TcCoe Idealize.ShloMosaic.Tactic

theorem far_init : (2 : ℤ) ^ 30 ≤ (2147483647#32 : BitVec 32).toInt := by
  rw [show (2147483647#32 : BitVec 32).toInt = 2147483647 from rfl]; norm_num

theorem far_out : ((12288 : ℕ) : ℤ) - 1 ≤ (1073741824#32 : BitVec 32).toInt := by
  rw [show (1073741824#32 : BitVec 32).toInt = 1073741824 from rfl]; norm_num

/-- The number of a box, row by row. -/
def numE : S96x128.Idx ≃ Fin 12288 := S96x128.rowMajor.trans (finCongr (by decide))

theorem numE_val (i : S96x128.Idx) : (numE i).val = (i 0).val * 128 + (i 1).val := Shape.rowMajor_val_two i

/-- A table read at a box number. -/
def fl {α : Type} (f : S96x128.Idx → α) (n : Fin 12288) : α := f (numE.symm n)

theorem fl_numE {α : Type} (f : S96x128.Idx → α) (i : S96x128.Idx) : fl f (numE i) = f i := by
  unfold fl; rw [Equiv.symm_apply_apply]

/-- The least positive number added to a denominator. -/
abbrev eps : EReal := Ideal.ofBits .f32 0x2EDBE6FF#32

/-- The overlap above which a box is dropped. -/
abbrev thr : EReal := Ideal.ofBits .f32 0x3F333333#32

/-- The corners and areas of the boxes. -/
structure Boxes where
  x1 : Fin 12288 → EReal
  y1 : Fin 12288 → EReal
  x2 : Fin 12288 → EReal
  y2 : Fin 12288 → EReal
  area : Fin 12288 → EReal

/-- The area two boxes share. -/
def Boxes.inter (B : Boxes) (p n : Fin 12288) : EReal :=
  max (min (B.x2 p) (B.x2 n) - max (B.x1 p) (B.x1 n)) 0 * max (min (B.y2 p) (B.y2 n) - max (B.y1 p) (B.y1 n)) 0

/-- Intersection over union. -/
def Boxes.iou (B : Boxes) (p n : Fin 12288) : EReal :=
  Ideal.div (B.inter p n) (B.area p + B.area n - B.inter p n + eps)

/-- The scores after box `p` has been picked out of the scores `s`: nothing changes once every score is minus infinity. -/
def Boxes.drop (B : Boxes) (s : Fin 12288 → EReal) (p n : Fin 12288) : EReal :=
  if ⊥ < s p ∧ (thr < B.iou p n ∨ n = p) then ⊥ else s n

theorem negInf_eq : (negInf : Ideal .f32) = (⊥ : EReal) := by
  show Ideal.ofBits .f32 0xFF800000#32 = ⊥
  simp [Ideal.ofBits, Ideal.ieee]

theorem reduces_one (i : S1x96x128.Idx) (j : S1.Idx) : reduces_S1x96x128_S1.drop i = j := by
  funext b
  exact Fin.ext (by have := (reduces_S1x96x128_S1.drop i b).isLt; have := (j b).isLt; have e : S1.size b = 1 := by fin_cases b; rfl
                    omega)

/-- The total of a product with a table that is one at box `p` and zero elsewhere is the table at `p`. -/
theorem oneHot (oh v : FVec Ideal S96x128 .f32) (p : Fin 12288) (h : ∀ i, oh i = if numE i = p then (1 : EReal) else 0) :
    extractAt ![0, 0, 0] (shapeCast S1x1x1 (multiReduction (F := Ideal) (φ := .f32) .add [1, 2] S1
      (shapeCast S1x96x128 (mulf oh v) shapeCasts_S96x128_S1x96x128) 0x00000000#32 reduces_S1x96x128_S1 (.inl rfl) rfl)
      shapeCasts_S1_S1x1x1) inpos_S1x1x1_p0_0_0 = (fl v p : EReal) := by
  rw [extractAt_eq]
  refine (Ideal.multiReduction_add_total _ _ reduces_S1x96x128_S1 (fun b => by fin_cases b; rfl) _ _ _).trans ?_
  refine (Equiv.sum_comp (Shape.reshapeEquiv shapeCasts_S96x128_S1x96x128) (fun i => (mulf oh v i : EReal))).trans ?_
  have e : ∀ i, (mulf oh v i : EReal) = (if numE i = p then (1 : EReal) else 0) * v i := fun i => by
    rw [← h i]; rfl
  simp only [e]
  rw [Finset.sum_eq_single (numE.symm p)]
  · rw [Equiv.apply_symm_apply, if_pos rfl, one_mul]; rfl
  · intro i _ hi
    rw [if_neg fun q => hi (by rw [← q, Equiv.symm_apply_apply]), zero_mul]
  · exact fun q => absurd (Finset.mem_univ _) q

section Pick

variable (sc : FVec Ideal S96x128 .f32) (p : Fin 12288) (hp : IsFirst (fl sc) p)

include hp in
theorem pick_max : (k0_pay2 sc : EReal) = fl sc p := by
  unfold k0_pay2
  dsimp only
  rw [extractAt_eq]
  refine (multiReduction_maximumf_eq_fold _ _ reduces_S1x96x128_S1 _ _ _).trans ?_
  rw [Finset.filter_true_of_mem fun i _ => reduces_one i _]
  refine (fold_equiv (FloatOps.maximumf (F := Ideal) (φ := .f32)) _ (Shape.reshapeEquiv shapeCasts_S96x128_S1x96x128) sc).trans ?_
  have hb : (FloatOps.ofBits (F := Ideal) .f32 0xFF800000#32 : EReal) = ⊥ := negInf_eq
  rw [hb]
  refine (fold_max_first sc (numE.symm p) fun k => ?_)
  have := hp.1 (numE k)
  rwa [fl_numE] at this

theorem flat_apply (i : S96x128.Idx) : (k0_pay44 i : BitVec 32) = BitVec.ofNat 32 (numE i).val := by
  rw [numE_val]
  unfold k0_pay44
  show BitVec.ofNat 32 _ * 128#32 + BitVec.ofNat 32 _ = _
  have h0 : (i 0).val < 96 := (i 0).isLt
  have h1 : (i 1).val < 128 := (i 1).isLt
  simp only [List.foldl_cons, List.foldl_nil]
  apply BitVec.eq_of_toNat_eq
  simp only [BitVec.toNat_add, BitVec.toNat_mul, BitVec.toNat_ofNat]
  omega

theorem pick_fold : pickOf sc = Finset.univ.fold IntOp.minsi 2147483647#32
    (fun i : S96x128.Idx => if Ideal.cmp .oeq (sc i) (k0_pay2 sc) = 1#1 then k0_pay44 i else 1073741824#32) := by
  show extractAt ![0, 0, 0] (k0_pay3 k0_pay44 sc) inpos_S1x1x1_p0_0_0 = _
  unfold k0_pay3
  dsimp only
  rw [extractAt_eq]
  refine (multiReductionI_eq_fold .minsi _ _ reduces_S1x96x128_S1 _ _).trans ?_
  rw [Finset.filter_true_of_mem fun i _ => reduces_one i _]
  refine Eq.trans ?_ (fold_equiv IntOp.minsi 2147483647#32 (Shape.reshapeEquiv shapeCasts_S96x128_S1x96x128)
    (fun i : S96x128.Idx => if Ideal.cmp .oeq (sc i) (k0_pay2 sc) = 1#1 then k0_pay44 i else 1073741824#32))
  refine congrArg (Finset.univ.fold IntOp.minsi 2147483647#32) (funext fun i => ?_)
  generalize k0_pay2 sc = M
  generalize k0_pay44 = J
  rfl

include hp in
theorem pick_word : pickOf sc = BitVec.ofNat 32 p.val := by
  rw [pick_fold]
  refine Eq.trans ?_ (fold_pick numE (fl sc) p hp 2147483647#32 1073741824#32 (by norm_num) far_init far_out)
  refine congrArg (Finset.univ.fold IntOp.minsi 2147483647#32) (funext fun i => ?_)
  rw [pick_max sc p hp, fl_numE, flat_apply]
  unfold Ideal.cmp
  by_cases q : sc i = fl sc p
  · simp [q]
  · simp [q]

theorem flat_eq : k0_pay44 = fun i => BitVec.ofNat 32 (numE i).val := funext flat_apply

theorem word_iff (a b : Fin 12288) : (BitVec.ofNat 32 a.val = BitVec.ofNat 32 b.val) ↔ a = b := by
  refine ⟨fun q => ?_, fun q => by rw [q]⟩
  have := congrArg BitVec.toNat q
  simp only [BitVec.toNat_ofNat] at this
  have h1 := a.isLt
  have h2 := b.isLt
  exact Fin.ext (by omega)

/-- A comparison for equality of two box numbers, as a word. -/
theorem cmp_word (a b : Fin 12288) :
    IntOp.cmpi .eq (BitVec.ofNat 32 a.val) (BitVec.ofNat 32 b.val) = if a = b then 1#1 else 0#1 := by
  unfold IntOp.cmpi
  by_cases q : a = b
  · simp [q]
  · have q' : ¬ (BitVec.ofNat 32 a.val = BitVec.ofNat 32 b.val) := fun h => q ((word_iff a b).1 h)
    show BitVec.ofBool (BitVec.ofNat 32 a.val == BitVec.ofNat 32 b.val) = _
    rw [beq_eq_false_iff_ne.2 q', if_neg q]
    rfl

include hp in
theorem pick_hot (i : S96x128.Idx) : (k0_pay4 (F := Ideal) k0_pay44 sc i : EReal) = if numE i = p then 1 else 0 := by
  have hw : extractAt ![0, 0, 0] (k0_pay3 k0_pay44 sc) inpos_S1x1x1_p0_0_0 = BitVec.ofNat 32 p.val := pick_word sc p hp
  unfold k0_pay4
  rw [hw, flat_eq]
  show (((BitVec.setWidth 32 (IntOp.cmpi .eq (BitVec.ofNat 32 (numE i).val) (BitVec.ofNat 32 p.val))).toInt : ℝ) : EReal) = _
  rw [cmp_word]
  by_cases q : numE i = p <;> simp [q]

/-- Whether a score is left, as a word. -/
theorem ok_word {b : BitVec 1} : (b = 1#1 ∨ b = 0#1) := by
  revert b; decide

include hp in
theorem ok_eq : okOf sc = if ⊥ < fl sc p then 1#1 else 0#1 := by
  have e : ∀ M : Ideal .f32, Scalar.cmpf (F := Ideal) .ogt M negInf = Ideal.cmp .ogt M ⊥ := fun M => by
    rw [negInf_eq]; rfl
  refine (e (k0_pay2 sc)).trans ?_
  rw [pick_max sc p hp]
  unfold Ideal.cmp
  by_cases q : ⊥ < fl sc p <;> simp [q]

variable (T : Tab Ideal)

/-- The loop's tables as corners and areas over the box numbers. -/
def Tab.boxes (T : Tab Ideal) : Boxes := ⟨fl T.x1, fl T.y1, fl T.x2, fl T.y2, fl T.area⟩

include hp in
/-- The scores a trip leaves. -/
theorem next_eq : fl (T.next sc) = T.boxes.drop (fl sc) p := by
  funext n
  have h5 : (k0_pay5 T.area k0_pay44 sc : EReal) = fl T.area p := oneHot _ T.area p (pick_hot sc p hp)
  have h6 : ∀ i, (k0_pay6 T.y1 k0_pay44 sc i : EReal) = max (fl T.y1 p) (T.y1 i) := fun i =>
    congrArg (fun a : EReal => max a (T.y1 i)) (oneHot _ T.y1 p (pick_hot sc p hp))
  have h7 : ∀ i, (k0_pay7 T.y2 k0_pay44 sc i : EReal) = min (fl T.y2 p) (T.y2 i) := fun i =>
    congrArg (fun a : EReal => min a (T.y2 i)) (oneHot _ T.y2 p (pick_hot sc p hp))
  have h8 : ∀ i, (k0_pay8 T.x1 T.x2 k0_pay44 sc i : EReal) = min (fl T.x2 p) (T.x2 i) - max (fl T.x1 p) (T.x1 i) := fun i =>
    congrArg₂ (fun a b : EReal => min a (T.x2 i) - max b (T.x1 i)) (oneHot _ T.x2 p (pick_hot sc p hp))
      (oneHot _ T.x1 p (pick_hot sc p hp))
  have hw : pickOf sc = BitVec.ofNat 32 p.val := pick_word sc p hp
  have hk := ok_eq sc p hp
  obtain ⟨i, rfl⟩ := numE.surjective n
  rw [fl_numE]
  unfold Tab.next
  rw [hw, hk]
  generalize k0_pay5 T.area k0_pay44 sc = a5 at h5 ⊢
  generalize k0_pay6 T.y1 k0_pay44 sc = a6 at h6 ⊢
  generalize k0_pay7 T.y2 k0_pay44 sc = a7 at h7 ⊢
  generalize k0_pay8 T.x1 T.x2 k0_pay44 sc = a8 at h8 ⊢
  rw [flat_eq]
  unfold k0_pay9
  show (if (IntOp.andi (if ⊥ < fl sc p then 1#1 else 0#1) (IntOp.ori (Ideal.cmp .ogt
      (Ideal.div (max (a8 i) (Ideal.ofBits .f32 0x00000000#32) * max (a7 i - a6 i) (Ideal.ofBits .f32 0x00000000#32))
        (((a5 : EReal) + T.area i) - (max (a8 i) (Ideal.ofBits .f32 0x00000000#32) * max (a7 i - a6 i) (Ideal.ofBits .f32 0x00000000#32)) + eps)) thr)
      (IntOp.cmpi .eq (BitVec.ofNat 32 (numE i).val) (BitVec.ofNat 32 p.val)))) = 1#1 then (negInf : Ideal .f32) else sc i : EReal) = _
  rw [h5, h6, h7, h8, cmp_word, negInf_eq, Ideal.ofBits_zero_f32]
  unfold Boxes.drop Boxes.iou Boxes.inter
  simp only [Tab.boxes, fl_numE]
  generalize Ideal.div _ _ = D
  unfold Ideal.cmp
  refine if_congr ?_ rfl rfl
  by_cases q1 : ⊥ < fl sc p <;> by_cases q2 : thr < D <;> by_cases q3 : numE i = p <;> simp [q1, q2, q3, IntOp.andi, IntOp.ori]

end Pick

end Cert.Proof

end
-- ==== Proof.Row.lean ====
module

public import proofs.«01_k».proof.Proof.Trip

/-! The row one trip of the kernel's loop stores, at the extended reals. -/

@[expose] public section

set_option maxRecDepth 16384

noncomputable section

namespace Cert.Proof

open Cert.KernelIdeal Cert.KernelIdeal.Gen
open Idealize.ShloMosaic Idealize.ShloMosaic.TcCoe Idealize.ShloMosaic.Tactic

variable (sc : FVec Ideal S96x128 .f32) (p : Fin 12288) (hp : IsFirst (fl sc) p) (T : Tab Ideal)

/-- One where a score is left, zero where none is. -/
def okf (sc : FVec Ideal S96x128 .f32) (p : Fin 12288) : EReal := if ⊥ < fl sc p then 1 else 0

theorem one_eq : Ideal.ofBits .f32 0x3F800000#32 = (1 : EReal) := by
  simp [Ideal.ofBits, Ideal.ieee, -EReal.coe_mul]; norm_num

include hp in
theorem okf_eq : (k0_pay10 (F := Ideal) (okOf sc) : EReal) = okf sc p := by
  rw [ok_eq sc p hp]
  show (if (if ⊥ < fl sc p then 1#1 else 0#1) = 1#1 then Ideal.ofBits .f32 0x3F800000#32 else Ideal.ofBits .f32 0x00000000#32 : EReal) = _
  rw [one_eq, Ideal.ofBits_zero_f32]
  unfold okf
  by_cases q : ⊥ < fl sc p <;> simp [q]

theorem lane_val (l : Fin 128) : lanes (ValueIdx.ix2 0 l) = BitVec.ofNat 32 l.val := by
  show BitVec.ofNat 32 _ = _
  simp only [List.foldl_cons, List.foldl_nil]
  exact congrArg (BitVec.ofNat 32) (Nat.zero_add _)

/-- The row a trip stores, lane by lane: centre, width and height of the picked box, then the flag. -/
theorem row_lanes (a0 a1 a2 a3 a4 : Ideal .f32) (l : Fin 128) :
    (k0_pay1 (F := Ideal) lanes a4 a0 a1 a2 a3 (k0_pay15 lanes) 1#32 (ValueIdx.ix2 0 l) : EReal) =
      if l.val = 0 then a0 else if l.val = 1 then a1 else if l.val = 2 then a2 else if l.val = 3 then a3
        else if l.val = 4 then a4 else Ideal.ofBits .f32 0x00000000#32 := by
  have e : ∀ k : ℕ, k < 5 → IntOp.cmpi .eq (lanes (ValueIdx.ix2 0 l)) (BitVec.ofNat 32 k) = if l.val = k then 1#1 else 0#1 := fun k hk => by
    rw [lane_val]
    have := cmp_word ⟨l.val, by have := l.isLt; omega⟩ ⟨k, by omega⟩
    simpa only [Fin.mk.injEq] using this
  unfold k0_pay1 k0_pay15
  show (if IntOp.cmpi .eq (lanes (ValueIdx.ix2 0 l)) (BitVec.ofNat 32 0) = 1#1 then a0
    else if IntOp.cmpi .eq (lanes (ValueIdx.ix2 0 l)) (BitVec.ofNat 32 1) = 1#1 then a1
    else if IntOp.cmpi .eq (lanes (ValueIdx.ix2 0 l)) (BitVec.ofNat 32 2) = 1#1 then a2
    else if IntOp.cmpi .eq (lanes (ValueIdx.ix2 0 l)) (BitVec.ofNat 32 3) = 1#1 then a3
    else if IntOp.cmpi .eq (lanes (ValueIdx.ix2 0 l)) (BitVec.ofNat 32 4) = 1#1 then a4 else Ideal.ofBits .f32 0x00000000#32 : EReal) = _
  rw [e 0 (by omega), e 1 (by omega), e 2 (by omega), e 3 (by omega), e 4 (by omega)]
  have b : ∀ q : Prop, [Decidable q] → (((if q then 1#1 else 0#1 : BitVec 1) = 1#1) ↔ q) := fun q _ => by by_cases h : q <;> simp [h]
  simp only [b]

include hp in
theorem row_xc : (k0_pay11 T.xc (okOf sc) (k0_pay4 k0_pay44 sc) : EReal) = fl T.xc p * okf sc p :=
  congrArg₂ (fun a b : EReal => a * b) (oneHot _ T.xc p (pick_hot sc p hp)) (okf_eq sc p hp)

include hp in
theorem row_yc : (k0_pay12 T.yc (okOf sc) (k0_pay4 k0_pay44 sc) : EReal) = fl T.yc p * okf sc p :=
  congrArg₂ (fun a b : EReal => a * b) (oneHot _ T.yc p (pick_hot sc p hp)) (okf_eq sc p hp)

include hp in
theorem row_w : (k0_pay13 T.w (okOf sc) (k0_pay4 k0_pay44 sc) : EReal) = fl T.w p * okf sc p :=
  congrArg₂ (fun a b : EReal => a * b) (oneHot _ T.w p (pick_hot sc p hp)) (okf_eq sc p hp)

include hp in
theorem row_h : (k0_pay14 T.h (okOf sc) (k0_pay4 k0_pay44 sc) : EReal) = fl T.h p * okf sc p :=
  congrArg₂ (fun a b : EReal => a * b) (oneHot _ T.h p (pick_hot sc p hp)) (okf_eq sc p hp)

/-- Centre, width and height of the boxes, by number and by coordinate. -/
def Tab.cwh (T : Tab Ideal) (n : Fin 12288) (j : Fin 4) : EReal :=
  if j.val = 0 then fl T.xc n else if j.val = 1 then fl T.yc n else if j.val = 2 then fl T.w n else fl T.h n

include hp in
/-- The first four lanes of a stored row are the picked box, times the flag. -/
theorem row_box (j : Fin 4) : (T.row sc (ValueIdx.ix2 0 ⟨j.val, by omega⟩) : EReal) = T.cwh p j * okf sc p := by
  unfold Tab.row
  refine (row_lanes _ _ _ _ _ _).trans ?_
  rw [row_xc sc p hp, row_yc sc p hp, row_w sc p hp, row_h sc p hp]
  unfold Tab.cwh
  fin_cases j <;> rfl

include hp in
/-- The fifth lane is the flag. -/
theorem row_flag : (T.row sc (ValueIdx.ix2 0 4) : EReal) = okf sc p := by
  unfold Tab.row
  refine (row_lanes _ _ _ _ _ _).trans ?_
  rw [okf_eq sc p hp, if_neg (by decide), if_neg (by decide), if_neg (by decide), if_neg (by decide), if_pos (by decide)]

end Cert.Proof

end
-- ==== Proof.Spec.lean ====
module

public import Idealize.ShloMosaic.PureOps.Ideal.Laws
public import Idealize.ShloMosaic.PureOps

/-! One region proposal in plain extended reals: from an anchor and the four numbers the box head gives for it to the
    clipped box, its corners, its area and its score. Both programs compute these, each in its own layout. -/

@[expose] public section

noncomputable section

namespace Cert.Proof

open Idealize.ShloMosaic

namespace Spec

/-- The number two, as the programs spell it. -/
def two : EReal := Ideal.ofBits .f32 0x40000000#32
/-- The number one, as the programs spell it. -/
def one : EReal := Ideal.ofBits .f32 0x3F800000#32
/-- The number zero, as the programs spell it. -/
def zero : EReal := Ideal.ofBits .f32 0x00000000#32
/-- The image's last pixel, 511, as the programs spell it. -/
def edge : EReal := Ideal.ofBits .f32 0x43FF8000#32
/-- Minus infinity, as the programs spell it. -/
def ninf : EReal := Ideal.ofBits .f32 0xFF800000#32

/-- A coordinate clipped to the image. -/
def clip (x : EReal) : EReal := min edge (max zero x)
/-- The clipped lower end of the interval of centre `c` and length `e`. -/
def lo (c e : EReal) : EReal := clip (c - Ideal.div e two)
/-- The clipped upper end. -/
def hi (c e : EReal) : EReal := clip (c + Ideal.div e two)
/-- The clipped length. -/
def side (c e : EReal) : EReal := hi c e - lo c e
/-- The clipped centre. -/
def mid (c e : EReal) : EReal := Ideal.div (lo c e + hi c e) two
/-- The lower end again, from the clipped centre and length. -/
def beg (c e : EReal) : EReal := mid c e - Ideal.div (side c e) two
/-- The upper end again, from the clipped centre and length. -/
def fin (c e : EReal) : EReal := mid c e + Ideal.div (side c e) two

/-- The moved centre: the anchor's, plus the head's offset times the anchor's length. -/
def ctr (a e t : EReal) : EReal := a + t * e
/-- The scaled length: the anchor's times the exponential of the head's number. -/
def len (e t : EReal) : EReal := e * Ideal.exp t

/-- The score of a box of centre `(cx, cy)` and lengths `w`, `h`: the head's, or minus infinity if the clipped box is
    less than a pixel wide or high. -/
def score (cx cy w h s : EReal) : EReal :=
  if Ideal.cmp .oge (side cx w) one &&& Ideal.cmp .oge (side cy h) one = 1#1 then s else ninf

end Spec

end Cert.Proof
-- ==== Proof.RefTrip.lean ====
module

public import proofs.«01_k».proof.Proof.Trip
public import proofs.«01_k».proof.Proof.RefRun
public import Idealize.ShloMosaic.Lib.DynamicIndex
public import Idealize.ShloMosaic.Lib.Routing.OpsSet
public import Idealize.ShloMosaic.Lib.Routing.OpsPair

/-! One trip of the reference's loop at the extended reals: the box it picks, the scores that stay active and the number it
    keeps. -/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.SL.Sem

/-- The number of an entry of a vector. -/
def num1 : S12288.Idx ≃ Fin 12288 := ⟨fun i => i 0, fun n => ValueIdx.ix1 n, fun i => by funext a; fin_cases a; rfl, fun _ => rfl⟩

/-- A vector read at a number. -/
def fv {α : Type} (f : S12288.Idx → α) (n : Fin 12288) : α := f (ValueIdx.ix1 n)

theorem fv_num (f : S12288.Idx → EReal) (i : S12288.Idx) : fv f (num1 i) = f i :=
  congrArg f (num1.symm_apply_apply i)

theorem far_out : ((12288 : ℕ) : ℤ) - 1 ≤ (12287#32 : BitVec 32).toInt := by
  rw [show (12287#32 : BitVec 32).toInt = 12287 from rfl]; norm_num

theorem drop_one (i : S12288.Idx) (j : S_.Idx) : reducesTo_S12288_S_d0.drop i = j := by
  funext b; exact b.elim0

/-- The reference's greatest score. -/
def topOf (f : FVec Ideal S12288 .f32) : FVec Ideal S_ .f32 :=
  Host.reduce FloatOps.maximumf f (constant S_ .f32 0xFF800000#32) reducesTo_S12288_S_d0 h_S_

/-- The reference's first index of the greatest score. -/
def pickOf (f : FVec Ideal S12288 .f32) : IVec S_ 32 :=
  Host.reduce IntOp.minsi (select (cmpf .oeq f (broadcastInDim S12288 ![] bcast_S_S12288 (topOf f))) (iotaInDim S12288 32 0)
    (broadcastInDim S12288 ![] bcast_S_S12288 (id (constantI S_ 32 12287#32)))) (constantI S_ 32 2147483647#32)
    reducesTo_S12288_S_d0 h_S_

/-- The entry of a vector at a word, a negative word counted from the end. -/
def readAt {α : Type} (x : S12288.Idx → α) (J : IVec S_ 32) : S_.Idx → α :=
  shapeCast S_ (Host.dynamicSlice S1 x (fun k => (((![select (cmpi .slt J (constantI S_ 32 0#32)) (addi J (constantI S_ 32 12288#32)) J] : Fin 1 → IVec S_ 32)) k (Shape.Idx.first h_S_)).toInt) sliceFits_S12288_S1) shapeCasts_S1_S_

theorem word_toInt (p : Fin 12288) : (BitVec.ofNat 32 p.val).toInt = p.val :=
  Predicate.toInt_ofNat_small _ (by have := p.isLt; omega)

/-- A word that is not negative is its own index. -/
theorem wrap_eq (J : IVec S_ 32) (N : BitVec 32) (j : S_.Idx) (h : 0 ≤ (J j).toInt) :
    select (cmpi .slt J (constantI S_ 32 0#32)) (addi J (constantI S_ 32 N)) J j = J j :=
  select_slt_zero_of_nonneg J _ _ j h

theorem readAt_eq {α : Type} (x : S12288.Idx → α) (J : IVec S_ 32) (p : Fin 12288) (hJ : ∀ j, J j = BitVec.ofNat 32 p.val)
    (j : S_.Idx) : readAt x J j = fv x p := by
  have hs : ∀ a : Fin S12288.rank, (((![select (cmpi .slt J (constantI S_ 32 0#32)) (addi J (constantI S_ 32 12288#32)) J] : Fin 1 → IVec S_ 32)) a (Shape.Idx.first h_S_)).toInt = ((fun _ => p.val : Fin S12288.rank → ℕ) a : ℤ) := by
    intro a
    obtain rfl : a = 0 := Subsingleton.elim _ _
    show (select _ _ J (Shape.Idx.first h_S_)).toInt = _
    rw [wrap_eq J _ _ (by rw [hJ, word_toInt]; omega), hJ, word_toInt]
  unfold readAt
  rw [Host.dynamicSlice_eq_extractStridedSlice S1 x _ (fun _ => p.val) sliceFits_S12288_S1
    ⟨rfl, fun a => by obtain rfl : a = 0 := Subsingleton.elim _ _
                      have := p.isLt
                      show p.val + 1 ≤ 12288
                      omega⟩ hs]
  refine congrArg x (funext fun a => Fin.ext ?_)
  obtain rfl : a = 0 := Subsingleton.elim _ _
  show p.val + (Shape.reshapeEquiv shapeCasts_S1_S_ j 0).val = p.val
  have := (Shape.reshapeEquiv shapeCasts_S1_S_ j 0).isLt
  have e : S1.size 0 = 1 := rfl
  omega

section Pick

variable (f : FVec Ideal S12288 .f32) (p : Fin 12288) (hp : IsFirst (fv f) p)

include hp in
theorem top_eq (j : S_.Idx) : (topOf f j : EReal) = fv f p := by
  unfold topOf
  refine (Host.reduce_eq_fold (FloatOps.maximumf (F := Ideal) (φ := .f32)) f _ reducesTo_S12288_S_d0 h_S_ j).trans ?_
  rw [Finset.filter_true_of_mem fun i _ => drop_one i _]
  have hb : (constant (F := Ideal) S_ .f32 0xFF800000#32 (Shape.Idx.first h_S_) : EReal) = ⊥ := negInf_eq
  rw [hb]
  refine fold_max_first f (ValueIdx.ix1 p) fun k => ?_
  have := hp.1 (num1 k)
  rwa [fv_num] at this

include hp in
theorem pick_eq (j : S_.Idx) : pickOf f j = BitVec.ofNat 32 p.val := by
  have h1 := top_eq f p hp
  unfold pickOf
  refine (Host.reduce_eq_fold IntOp.minsi _ _ reducesTo_S12288_S_d0 h_S_ j).trans ?_
  rw [Finset.filter_true_of_mem fun i _ => drop_one i _]
  refine Eq.trans ?_ (fold_pick num1 (fv f) p hp 2147483647#32 12287#32 (by norm_num) far_init far_out)
  refine congrArg (Finset.univ.fold IntOp.minsi 2147483647#32) (funext fun i => ?_)
  rw [fv_num]
  generalize topOf f = M at h1 ⊢
  show (if Ideal.cmp .oeq (f i) (M _) = 1#1 then BitVec.ofNat 32 (i 0).val else 12287#32) = _
  rw [h1]
  unfold Ideal.cmp
  by_cases q : f i = fv f p
  · simp [q]; rfl
  · simp [q]

end Pick

/-- A one-word scatter that overwrites: the entry at the word's index is the update. -/
theorem scatter_one {α : Type} {N : ℕ} (d : ScatterDims ⟨1, ![N]⟩ S1 S_) (hi : d.insertedWindowDims = [0])
    (hs : d.scatterDimsToOperandDims = [0]) (x : (⟨1, ![N]⟩ : Shape).Idx → α) (idx : IVec S1 32) (v : S_.Idx → α)
    (p : Fin N) (hp : ∀ k, (idx k).toInt = p.val) (c : α) (hv : ∀ j, v j = c) (n : Fin N) :
    Host.scatter d (fun _ b => b) x idx v (ValueIdx.ix1 n) = if n = p then c else x (ValueIdx.ix1 n) := by
  have key : ∀ k : S_.Idx, d.resultIdx? k idx = some (ValueIdx.ix1 n) ↔ n = p := by
    intro k
    refine (Routing.resultIdx?_ix1 d k idx n).trans ?_
    have h1 : d.start k idx 0 = p.val := by
      unfold ScatterDims.start
      rw [dif_pos (by rw [hs]; exact List.mem_singleton.2 rfl), hp]
    have h2 : d.window k 0 = 0 := by
      unfold ScatterDims.window
      rw [dif_neg fun h => (of_decide_eq_true (List.mem_filter.1 h).2) (by rw [hi]; exact List.mem_singleton.2 rfl)]
    rw [h1, h2]
    constructor
    · intro h; exact Fin.ext (by omega)
    · rintro rfl; simp
  by_cases q : n = p
  · rw [if_pos q]
    exact Routing.scatter_set_hit d x idx v _ c (fun k _ => hv k) (Shape.Idx.first h_S_) ((key _).2 q)
  · rw [if_neg q]
    exact Routing.scatter_set_miss d x idx v _ fun k h => q ((key k).1 h)

section Step

variable (V : Valuation τ sig (Elt Ideal)) (p : Fin 12288)

/-- Which boxes are active. -/
def act (V : Valuation τ sig (Elt Ideal)) : IVec S12288 1 := V (Proc.devRef .tc main_v234_8)

/-- The scores the loop carries. -/
def scr (V : Valuation τ sig (Elt Ideal)) : FVec Ideal S12288 .f32 := V (Proc.devRef .tc main_v234_0)

/-- The trip number. -/
def cnt (V : Valuation τ sig (Elt Ideal)) : IVec S_ 32 := V (Proc.devRef .tc main_v234_7)

/-- The numbers kept. -/
def kept (V : Valuation τ sig (Elt Ideal)) : IVec S300 32 := V (Proc.devRef .tc main_v234_9)

/-- The scores that are still active. -/
def live (V : Valuation τ sig (Elt Ideal)) : Fin 12288 → EReal := fv (res_main_while0b_v252 V : FVec Ideal S12288 .f32)

/-- The left edges. -/
def lef (V : Valuation τ sig (Elt Ideal)) : FVec Ideal S12288 .f32 := V (Proc.devRef .tc main_v234_1)

/-- The top edges. -/
def top (V : Valuation τ sig (Elt Ideal)) : FVec Ideal S12288 .f32 := V (Proc.devRef .tc main_v234_2)

/-- The right edges. -/
def rig (V : Valuation τ sig (Elt Ideal)) : FVec Ideal S12288 .f32 := V (Proc.devRef .tc main_v234_3)

/-- The bottom edges. -/
def bot (V : Valuation τ sig (Elt Ideal)) : FVec Ideal S12288 .f32 := V (Proc.devRef .tc main_v234_4)

/-- The areas. -/
def are (V : Valuation τ sig (Elt Ideal)) : FVec Ideal S12288 .f32 := V (Proc.devRef .tc main_v234_5)

/-- The corners and areas the reference's loop carries. -/
def boxesOf (V : Valuation τ sig (Elt Ideal)) : Boxes := ⟨fv (lef V), fv (top V), fv (rig V), fv (bot V), fv (are V)⟩

theorem live_apply (n : Fin 12288) : live V n =
    if act V (ValueIdx.ix1 n) = 1#1 then (scr V (ValueIdx.ix1 n) : EReal) else ⊥ := by
  unfold live fv res_main_while0b_v252
  show (if _ then _ else (negInf : Ideal .f32)) = _
  rw [negInf_eq]
  rfl

variable (hp : IsFirst (live V) p)

include hp in
theorem step_pick (j : S_.Idx) : (res_main_while0b_v258 V : IVec S_ 32) j = BitVec.ofNat 32 p.val :=
  pick_eq (res_main_while0b_v252 V) p hp j

include hp in
theorem step_ok (j : S_.Idx) : (res_main_while0b_v264 V : IVec S_ 1) j = if ⊥ < live V p then 1#1 else 0#1 := by
  have h := readAt_eq (res_main_while0b_v252 V : FVec Ideal S12288 .f32) (res_main_while0b_v258 V) p (step_pick V p hp) j
  have e : ∀ a : Ideal .f32, FloatOps.cmpf (F := Ideal) .ogt a negInf = Ideal.cmp .ogt a ⊥ := fun a => by
    rw [negInf_eq]; rfl
  refine (e (readAt (res_main_while0b_v252 V : FVec Ideal S12288 .f32) (res_main_while0b_v258 V) j)).trans ?_
  rw [h]
  unfold Ideal.cmp
  by_cases q : ⊥ < live V p
  · rw [if_pos q]; exact congrArg BitVec.ofBool (decide_eq_true q)
  · rw [if_neg q]; exact congrArg BitVec.ofBool (decide_eq_false q)

include hp in
theorem step_inter (n : Fin 12288) : (res_main_while0b_v306 V : FVec Ideal S12288 .f32) (ValueIdx.ix1 n) = (boxesOf V).inter p n := by
  have r : ∀ (x : FVec Ideal S12288 .f32) j, readAt x (res_main_while0b_v258 V) j = fv x p := fun x =>
    readAt_eq x (res_main_while0b_v258 V) p (step_pick V p hp)
  unfold res_main_while0b_v306
  generalize res_main_while0b_v258 V = J at r
  show (max (min (readAt (rig V) J _ : EReal) (rig V (ValueIdx.ix1 n)) - max (readAt (lef V) J _ : EReal) (lef V (ValueIdx.ix1 n))) (Ideal.ofBits .f32 0x00000000#32)
    * max (min (readAt (bot V) J _ : EReal) (bot V (ValueIdx.ix1 n)) - max (readAt (top V) J _ : EReal) (top V (ValueIdx.ix1 n))) (Ideal.ofBits .f32 0x00000000#32) : EReal) = _
  rw [r, r, r, r, Ideal.ofBits_zero_f32]
  rfl

include hp in
/-- Which boxes a trip leaves active. -/
theorem step_active (n : Fin 12288) : (step_main_v234_8 V : IVec S12288 1) (ValueIdx.ix1 n) =
    if ⊥ < live V p then
      (if n = p then 0#1 else IntOp.andi (act V (ValueIdx.ix1 n))
        (Ideal.cmp .ole ((boxesOf V).iou p n) thr))
    else act V (ValueIdx.ix1 n) := by
  have r : ∀ (x : FVec Ideal S12288 .f32) j, readAt x (res_main_while0b_v258 V) j = fv x p := fun x =>
    readAt_eq x (res_main_while0b_v258 V) p (step_pick V p hp)
  have hi := step_inter V p hp n
  have hok := step_ok V p hp
  have hJ := step_pick V p hp
  unfold step_main_v234_8 act
  generalize res_main_while0b_v258 V = J at r hJ ⊢
  generalize res_main_while0b_v306 V = I at hi ⊢
  generalize res_main_while0b_v264 V = K at hok ⊢
  by_cases q : ⊥ < live V p
  · have hk : ∀ j, K j = 1#1 := fun j => (hok j).trans (if_pos q)
    refine (if_pos (hk _)).trans ?_
    rw [if_pos q]
    refine (scatter_one scatter_S12288_S1_S__n_0_0_0 rfl rfl _ _ _ p (fun k => ?_) 0#1 (fun _ => rfl) n).trans ?_
    · show (select _ _ J _).toInt = _
      rw [wrap_eq J _ _ (by rw [hJ, word_toInt]; omega), hJ, word_toInt]
    · refine if_congr Iff.rfl rfl ?_
      show IntOp.andi _ (Ideal.cmp .ole (Ideal.div (I (ValueIdx.ix1 n)) (((readAt (are V) J _ : EReal) + are V (ValueIdx.ix1 n) - I (ValueIdx.ix1 n)) + eps)) thr) = _
      rw [r, hi]
      rfl
  · have hk : ∀ j, ¬ K j = 1#1 := fun j h => (by decide : ¬ (0#1 : BitVec 1) = 1#1) (((hok j).trans (if_neg q)).symm.trans h)
    refine (if_neg (hk _)).trans ?_
    rw [if_neg q]

include hp in
/-- The scores that are active after a trip. -/
theorem step_live : live (STEP V) = (boxesOf V).drop (live V) p := by
  funext n
  have ha : act (STEP V) = step_main_v234_8 V := STEP_main_v234_8 V
  have hs : scr (STEP V) = scr V := STEP_main_v234_0 V
  rw [live_apply, ha, hs]
  have := step_active V p hp n
  rw [this]
  unfold Boxes.drop
  rw [live_apply V n]
  generalize act V (ValueIdx.ix1 n) = A
  generalize (scr V (ValueIdx.ix1 n) : EReal) = S
  generalize (boxesOf V).iou p n = D
  rcases (ok_word (b := A)) with rfl | rfl <;> by_cases q1 : ⊥ < live V p <;> by_cases q2 : n = p <;> by_cases q3 : thr < D <;>
    simp [q1, q2, q3, Ideal.cmp, IntOp.andi, not_le.2, not_lt.1]

theorem step_boxes : boxesOf (STEP V) = boxesOf V := by
  unfold boxesOf lef top rig bot are
  rw [STEP_main_v234_1, STEP_main_v234_2, STEP_main_v234_3, STEP_main_v234_4, STEP_main_v234_5]

include hp in
/-- The number a trip keeps. -/
theorem step_kept (k : Fin 300) (hk : ∀ j, cnt V j = BitVec.ofNat 32 k.val) (r : Fin 300) :
    kept (STEP V) (ValueIdx.ix1 r) =
      if r = k then (if ⊥ < live V p then BitVec.ofNat 32 p.val else 4294967295#32)
      else kept V (ValueIdx.ix1 r) := by
  have hok := step_ok V p hp
  have hJ := step_pick V p hp
  have hk' : (BitVec.ofNat 32 k.val).toInt = k.val := Predicate.toInt_ofNat_small _ (by have := k.isLt; omega)
  have e : kept (STEP V) = step_main_v234_9 V := STEP_main_v234_9 V
  rw [e]
  unfold step_main_v234_9 kept
  change ∀ j, (V (Proc.devRef .tc main_v234_7) : IVec S_ 32) j = _ at hk
  generalize res_main_while0b_v258 V = J at hJ ⊢
  generalize res_main_while0b_v264 V = K at hok ⊢
  generalize V (Proc.devRef .tc main_v234_7) = I at hk ⊢
  refine scatter_one scatter_S300_S1_S__n_0_0_0 rfl rfl _ _ _ k (fun j => ?_) _ (fun j => ?_) r
  · show (select _ _ I _).toInt = _
    rw [wrap_eq I _ _ (by rw [hk, hk']; omega), hk, hk']
  · show (if K j = 1#1 then J j else 4294967295#32) = _
    rw [hok, hJ]
    by_cases q : ⊥ < live V p
    · rw [if_pos q, if_pos q, if_pos rfl]
    · rw [if_neg q, if_neg q]
      exact if_neg (fun h : (0#1 : BitVec 1) = 1#1 => absurd h (by decide))

/-- The trip number goes up by one. -/
theorem step_count (k : ℕ) (hk : ∀ j, cnt V j = BitVec.ofNat 32 k) (j : S_.Idx) :
    cnt (STEP V) j = BitVec.ofNat 32 (k + 1) := by
  have e : cnt (STEP V) = step_main_v234_7 V := STEP_main_v234_7 V
  rw [e]
  refine (congrArg (· + 1#32) (hk j)).trans ?_
  exact (BitVec.ofNat_add k 1).symm

end Step

end Cert.Proof.Ref

end
-- ==== Proof.Greedy.lean ====
module

public import proofs.«01_k».proof.Proof.Row
public import proofs.«01_k».proof.Proof.RefTrip
public import Idealize.ShloMosaic.Lib.Routing.Ops
public import Idealize.ShloMosaic.Lib.StableHlo.RunRead

/-! The two greedy selections side by side: from equal boxes and equal scores the kernel's 300 rows are the reference's
    300 boxes and flags. -/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.SL.Sem

section Walk

variable (T : Tab Ideal) (s0 : FVec Ideal Cert.KernelIdeal.S96x128 .f32) (X : Valuation τ sig (Elt Ideal))

/-- The box trip `k` picks. -/
def won (T : Tab Ideal) (s0 : FVec Ideal Cert.KernelIdeal.S96x128 .f32) (k : ℕ) : Fin 12288 := (exists_first (fl (T.sc s0 k))).choose

theorem won_first (k : ℕ) : IsFirst (fl (T.sc s0 k)) (won T s0 k) := (exists_first (fl (T.sc s0 k))).choose_spec

/-- The number trip `k` keeps: the picked box, or minus one. -/
def keepOf (T : Tab Ideal) (s0 : FVec Ideal Cert.KernelIdeal.S96x128 .f32) (k : ℕ) : BitVec 32 :=
  if ⊥ < fl (T.sc s0 k) (won T s0 k) then BitVec.ofNat 32 (won T s0 k).val else 4294967295#32

/-- From equal boxes and scores, after `k` trips: equal boxes and scores, and the numbers kept so far. -/
theorem walk (hB : boxesOf X = T.boxes) (hs : live X = fl s0) (hc : ∀ j, cnt X j = 0#32) : ∀ k : ℕ, k ≤ 300 →
    boxesOf (STEP^[k] X) = T.boxes ∧ live (STEP^[k] X) = fl (T.sc s0 k) ∧ (∀ j, cnt (STEP^[k] X) j = BitVec.ofNat 32 k)
      ∧ ∀ r : Fin 300, r.val < k → kept (STEP^[k] X) (ValueIdx.ix1 r) = keepOf T s0 r.val
  | 0, _ => ⟨hB, hs, hc, fun r hr => absurd hr (Nat.not_lt_zero _)⟩
  | k + 1, hk => by
    obtain ⟨h1, h2, h3, h4⟩ := walk hB hs hc k (by omega)
    rw [Function.iterate_succ_apply']
    generalize STEP^[k] X = Y at h1 h2 h3 h4 ⊢
    have hp : IsFirst (live Y) (won T s0 k) := by rw [h2]; exact won_first T s0 k
    refine ⟨(step_boxes Y).trans h1, ?_, step_count Y k h3, fun r hr => ?_⟩
    · rw [step_live Y _ hp, h1, h2]
      exact (next_eq (T.sc s0 k) _ (won_first T s0 k) T).symm
    · rw [step_kept Y _ hp ⟨k, by omega⟩ h3 r]
      by_cases e : r = ⟨k, by omega⟩
      · rw [if_pos e, h2, show r.val = k from congrArg Fin.val e]
        rfl
      · rw [if_neg e]
        exact h4 r (lt_of_le_of_ne (by omega) fun q => e (Fin.ext q))

end Walk

section Last

variable (V : Valuation τ sig (Elt Ideal)) (T : Tab Ideal) (s0 : FVec Ideal Cert.KernelIdeal.S96x128 .f32)

/-- The clipped boxes, by number and coordinate. -/
def box (V : Valuation τ sig (Elt Ideal)) : FVec Ideal S1x12288x4 .f32 := V (Proc.devRef .tc main_v191)

/-- The flags of kept numbers. -/
def flags (K : IVec S300 32) : FVec Ideal S300 .f32 := uitofp .f32 (cmpi .sge K (broadcastInDim S300 ![] bcast_S_S300 (constantI S_ 32 0#32)))

/-- Kept numbers, none below zero. -/
def safe (K : IVec S300 32) : IVec S300 32 := maxsi K (broadcastInDim S300 ![] bcast_S_S300 (constantI S_ 32 0#32))

/-- The index words of kept numbers. -/
def words (K : IVec S300 32) : IVec S300x1 32 :=
  broadcastInDim S300x1 ![0] bcast_S300_S300x1_0 (select (cmpi .slt (safe K) (broadcastInDim S300 ![] bcast_S_S300 (constantI S_ 32 0#32)))
    (addi (safe K) (broadcastInDim S300 ![] bcast_S_S300 (constantI S_ 32 12288#32))) (safe K))

/-- The flags the lines after the loop make. -/
theorem last_mask : after hostOps0_19 V (Proc.devRef .tc main_v239) = flags (kept V) := by
  unfold kept
  after_reads_simp
  rfl

/-- The boxes the lines after the loop make. -/
theorem last_rois : after hostOps0_19 V (Proc.devRef .tc main_v250) =
    (mulf (Host.gather gather_S12288x4_S300x1_S300x4_1_0_n_n_0_1_14 (shapeCast S12288x4 (box V) shapeCasts_S1x12288x4_S12288x4) (words (kept V)))
      (broadcastInDim S300x4 ![0, 1] bcast_S300x1_S300x4_0_1 (broadcastInDim S300x1 ![0] bcast_S300_S300x1_0 (flags (kept V)))) : FVec Ideal S300x4 .f32) := by
  unfold kept box
  after_reads_simp
  rfl

/-- The flag of one row. -/
theorem mask_at (r : Fin 300) (hr : kept V (ValueIdx.ix1 r) = keepOf T s0 r.val) :
    (flags (kept V) (ValueIdx.ix1 r) : EReal)
      = okf (T.sc s0 r.val) (won T s0 r.val) := by
  show (((BitVec.ofBool ((0#32).sle (kept V (ValueIdx.ix1 r)))).toNat : ℝ) : EReal) = _
  rw [hr]
  unfold keepOf okf
  by_cases q : ⊥ < fl (T.sc s0 r.val) (won T s0 r.val)
  · rw [if_pos q, if_pos q]
    have : (0#32).sle (BitVec.ofNat 32 (won T s0 r.val).val) = true := by
      rw [BitVec.sle, word_toInt]; simp
    rw [this]; simp
  · rw [if_neg q, if_neg q]
    have : (0#32).sle 4294967295#32 = false := by decide
    rw [this]; simp

/-- A kept number as an index: the picked box, or zero. -/
theorem index_word (k : ℕ) :
    (IntOp.maxsi (keepOf T s0 k) 0#32 = BitVec.ofNat 32 (if ⊥ < fl (T.sc s0 k) (won T s0 k) then (won T s0 k) else 0 : Fin 12288).val) := by
  unfold keepOf
  by_cases q : ⊥ < fl (T.sc s0 k) (won T s0 k)
  · rw [if_pos q, if_pos q]
    apply BitVec.eq_of_toInt_eq
    rw [SortNet.toInt_maxsi, word_toInt]
    simp
  · rw [if_neg q, if_neg q]
    decide

/-- The number whose row is read: the picked box, or zero. -/
def read (T : Tab Ideal) (s0 : FVec Ideal Cert.KernelIdeal.S96x128 .f32) (k : ℕ) : Fin 12288 :=
  if ⊥ < fl (T.sc s0 k) (won T s0 k) then won T s0 k else 0

theorem words_at (r : Fin 300) (hr : kept V (ValueIdx.ix1 r) = keepOf T s0 r.val) :
    words (kept V) (ValueIdx.ix2 r 0) = BitVec.ofNat 32 (read T s0 r.val).val := by
  have e : safe (kept V) (ValueIdx.ix1 r) = BitVec.ofNat 32 (read T s0 r.val).val := by
    show IntOp.maxsi (kept V (ValueIdx.ix1 r)) 0#32 = _
    rw [hr]
    exact index_word T s0 r.val
  have w : 0 ≤ (safe (kept V) (ValueIdx.ix1 r)).toInt := by rw [e, word_toInt]; omega
  refine Eq.trans ?_ ((select_slt_zero_of_nonneg (safe (kept V)) (addi (safe (kept V)) (broadcastInDim S300 ![] bcast_S_S300 (constantI S_ 32 12288#32))) (safe (kept V)) (ValueIdx.ix1 r) w).trans e)
  unfold words
  refine congrArg (select _ _ _) (funext fun a => ?_)
  obtain rfl : a = 0 := Subsingleton.elim _ _
  rfl

/-- One entry of the reference's boxes. -/
theorem rois_at (hb : ∀ n j, (box V (ValueIdx.ix3 0 n j) : EReal) = T.cwh n j) (r : Fin 300) (j : Fin 4)
    (hr : kept V (ValueIdx.ix1 r) = keepOf T s0 r.val) :
    ((mulf (Host.gather gather_S12288x4_S300x1_S300x4_1_0_n_n_0_1_14 (shapeCast S12288x4 (box V) shapeCasts_S1x12288x4_S12288x4) (words (kept V)))
      (broadcastInDim S300x4 ![0, 1] bcast_S300x1_S300x4_0_1 (broadcastInDim S300x1 ![0] bcast_S300_S300x1_0 (flags (kept V)))) : FVec Ideal S300x4 .f32) (ValueIdx.ix2 r j) : EReal)
      = T.cwh (won T s0 r.val) j * okf (T.sc s0 r.val) (won T s0 r.val) := by
  have hm := mask_at V T s0 r hr
  have hg : (Host.gather gather_S12288x4_S300x1_S300x4_1_0_n_n_0_1_14 (shapeCast S12288x4 (box V) shapeCasts_S1x12288x4_S12288x4) (words (kept V)) (ValueIdx.ix2 r j) : EReal)
      = T.cwh (read T s0 r.val) j := by
    refine (Routing.gather_row gather_S12288x4_S300x1_S300x4_1_0_n_n_0_1_14 rfl rfl rfl rfl rfl _ (words (kept V)) r j (read T s0 r.val)
      (words_at V T s0 r hr) (by norm_num)).trans ?_
    refine (shapeCast_apply (box V) shapeCasts_S1x12288x4_S12288x4 (ValueIdx.ix2 (read T s0 r.val) j) (ValueIdx.ix3 0 (read T s0 r.val) j) ?_).trans (hb _ _)
    rw [Shape.rowMajor_val_two, Shape.rowMajor_val_three]
    simp
  have hf : (broadcastInDim S300x4 ![0, 1] bcast_S300x1_S300x4_0_1 (broadcastInDim S300x1 ![0] bcast_S300_S300x1_0 (flags (kept V))) (ValueIdx.ix2 r j) : EReal)
      = okf (T.sc s0 r.val) (won T s0 r.val) := by
    refine Eq.trans ?_ hm
    refine congrArg (flags (kept V)) (funext fun a => ?_)
    obtain rfl : a = 0 := Subsingleton.elim _ _
    rfl
  refine (congrArg₂ (fun a b : EReal => a * b) hg hf).trans ?_
  unfold read okf
  by_cases q : ⊥ < fl (T.sc s0 r.val) (won T s0 r.val)
  · rw [if_pos q]
  · rw [if_neg q, if_neg q, mul_zero, mul_zero]

end Last

end Cert.Proof.Ref

end
-- ==== Proof.RefBoxes.lean ====
module

public import proofs.«01_k».proof.Proof.RefTrip
public import proofs.«01_k».proof.Proof.Spec
public import Idealize.ShloMosaic.Lib.StableHlo.RunRead

/-! The reference before its loop: the clipped boxes, their corners and areas and the scores, read box by box from the
    anchors, the box head's map and the score head's map. -/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.SL.Sem

/-- From any contents, what the lines before the loop leave. -/
abbrev pre (V : Valuation τ sig (Elt Ideal)) : Valuation τ sig (Elt Ideal) := afterL (preI (F := Ideal)) V

/-- Column `d` of an array of boxes. -/
def col0 (x : FVec Ideal S1x12288x4 .f32) : FVec Ideal S1x12288 .f32 :=
  shapeCast S1x12288 (extractStridedSlice S1x12288x1 ![0, 0, 0] x slices_S1x12288x4_S1x12288x1_0_0_0) shapeCasts_S1x12288x1_S1x12288
/-- Column 1. -/
def col1 (x : FVec Ideal S1x12288x4 .f32) : FVec Ideal S1x12288 .f32 :=
  shapeCast S1x12288 (extractStridedSlice S1x12288x1 ![0, 0, 1] x slices_S1x12288x4_S1x12288x1_0_0_1) shapeCasts_S1x12288x1_S1x12288
/-- Column 2. -/
def col2 (x : FVec Ideal S1x12288x4 .f32) : FVec Ideal S1x12288 .f32 :=
  shapeCast S1x12288 (extractStridedSlice S1x12288x1 ![0, 0, 2] x slices_S1x12288x4_S1x12288x1_0_0_2) shapeCasts_S1x12288x1_S1x12288
/-- Column 3. -/
def col3 (x : FVec Ideal S1x12288x4 .f32) : FVec Ideal S1x12288 .f32 :=
  shapeCast S1x12288 (extractStridedSlice S1x12288x1 ![0, 0, 3] x slices_S1x12288x4_S1x12288x1_0_0_3) shapeCasts_S1x12288x1_S1x12288

/-- Four arrays of one column side by side. -/
def cat (a b c d : FVec Ideal S1x12288x1 .f32) : FVec Ideal S1x12288x4 .f32 :=
  concatenate S1x12288x4 2 [⟨S1x12288x1, a⟩, ⟨S1x12288x1, b⟩, ⟨S1x12288x1, c⟩, ⟨S1x12288x1, d⟩] concatenates_S1x12288x1_S1x12288x1_S1x12288x1_S1x12288x1_S1x12288x4_d2

/-- A column as an array of one column. -/
abbrev up (a : FVec Ideal S1x12288 .f32) : FVec Ideal S1x12288x1 .f32 :=
  broadcastInDim S1x12288x1 ![0, 1] bcast_S1x12288_S1x12288x1_0_1 a

/-- Four columns side by side. -/
def stack (a b c d : FVec Ideal S1x12288 .f32) : FVec Ideal S1x12288x4 .f32 := cat (up a) (up b) (up c) (up d)

/-- Equal columns side by side are equal. -/
theorem cat_eq {a b c d : FVec Ideal S1x12288x1 .f32} {a' b' c' d' : FVec Ideal S1x12288 .f32}
    (ha : a = up a') (hb : b = up b') (hc : c = up c') (hd : d = up d') : concatenate S1x12288x4 2 [⟨S1x12288x1, a⟩, ⟨S1x12288x1, b⟩, ⟨S1x12288x1, c⟩, ⟨S1x12288x1, d⟩]
      concatenates_S1x12288x1_S1x12288x1_S1x12288x1_S1x12288x1_S1x12288x4_d2 = stack a' b' c' d' := by
  subst ha hb hc hd; rfl

theorem col0_apply (x : FVec Ideal S1x12288x4 .f32) (n : Fin 12288) : col0 x (ValueIdx.ix2 0 n) = x (ValueIdx.ix3 0 n 0) := by
  unfold col0
  rw [shapeCast_apply _ _ (ValueIdx.ix2 (0 : Fin 1) n) (ValueIdx.ix3 (0 : Fin 1) n (0 : Fin 1)) (by simp [Shape.rowMajor_val_two, Shape.rowMajor_val_three]),
    extractStridedSlice_apply _ _ _ _ (ValueIdx.ix3 (0 : Fin 1) n (0 : Fin 4)) (fun a => by fin_cases a <;> simp)]
theorem col1_apply (x : FVec Ideal S1x12288x4 .f32) (n : Fin 12288) : col1 x (ValueIdx.ix2 0 n) = x (ValueIdx.ix3 0 n 1) := by
  unfold col1
  rw [shapeCast_apply _ _ (ValueIdx.ix2 (0 : Fin 1) n) (ValueIdx.ix3 (0 : Fin 1) n (0 : Fin 1)) (by simp [Shape.rowMajor_val_two, Shape.rowMajor_val_three]),
    extractStridedSlice_apply _ _ _ _ (ValueIdx.ix3 (0 : Fin 1) n (1 : Fin 4)) (fun a => by fin_cases a <;> simp)]
theorem col2_apply (x : FVec Ideal S1x12288x4 .f32) (n : Fin 12288) : col2 x (ValueIdx.ix2 0 n) = x (ValueIdx.ix3 0 n 2) := by
  unfold col2
  rw [shapeCast_apply _ _ (ValueIdx.ix2 (0 : Fin 1) n) (ValueIdx.ix3 (0 : Fin 1) n (0 : Fin 1)) (by simp [Shape.rowMajor_val_two, Shape.rowMajor_val_three]),
    extractStridedSlice_apply _ _ _ _ (ValueIdx.ix3 (0 : Fin 1) n (2 : Fin 4)) (fun a => by fin_cases a <;> simp)]
theorem col3_apply (x : FVec Ideal S1x12288x4 .f32) (n : Fin 12288) : col3 x (ValueIdx.ix2 0 n) = x (ValueIdx.ix3 0 n 3) := by
  unfold col3
  rw [shapeCast_apply _ _ (ValueIdx.ix2 (0 : Fin 1) n) (ValueIdx.ix3 (0 : Fin 1) n (0 : Fin 1)) (by simp [Shape.rowMajor_val_two, Shape.rowMajor_val_three]),
    extractStridedSlice_apply _ _ _ _ (ValueIdx.ix3 (0 : Fin 1) n (3 : Fin 4)) (fun a => by fin_cases a <;> simp)]

/-- Column `d` of four columns side by side is the one put there. -/
theorem stack_apply (a b c d : FVec Ideal S1x12288 .f32) (n : Fin 12288) (j : Fin 4) :
    stack a b c d (ValueIdx.ix3 0 n j) = (![a, b, c, d] j) (ValueIdx.ix2 0 n) := by
  have hb : ∀ x : FVec Ideal S1x12288 .f32, up x (ValueIdx.ix3 0 n 0) = x (ValueIdx.ix2 0 n) :=
    fun x => broadcastInDim_apply _ _ _ _ _ (fun a => by fin_cases a <;> simp)
  unfold stack cat
  generalize hA : up a = A
  generalize hB : up b = B
  generalize hC : up c = C
  generalize hD : up d = D
  fin_cases j
  · refine Eq.trans ?_ ((congrFun hA _).symm.trans (hb a))
    refine concatenate_apply_piece (t := S1x12288x4) _ _ _ _ 0 ?_ S1x12288x1 A ?_ rfl 0 ?_ (ValueIdx.ix3 (0 : Fin 1) n (0 : Fin 1)) ?_ ?_
    · simp
    · rfl
    · simp
    · intro b h; fin_cases b <;> first | rfl | exact absurd rfl h
    · rfl
  · refine Eq.trans ?_ ((congrFun hB _).symm.trans (hb b))
    refine concatenate_apply_piece (t := S1x12288x4) _ _ _ _ 1 ?_ S1x12288x1 B ?_ rfl 1 ?_ (ValueIdx.ix3 (0 : Fin 1) n (0 : Fin 1)) ?_ ?_
    · simp
    · rfl
    · simp
    · intro b h; fin_cases b <;> first | rfl | exact absurd rfl h
    · rfl
  · refine Eq.trans ?_ ((congrFun hC _).symm.trans (hb c))
    refine concatenate_apply_piece (t := S1x12288x4) _ _ _ _ 2 ?_ S1x12288x1 C ?_ rfl 2 ?_ (ValueIdx.ix3 (0 : Fin 1) n (0 : Fin 1)) ?_ ?_
    · simp
    · rfl
    · simp
    · intro b h; fin_cases b <;> first | rfl | exact absurd rfl h
    · rfl
  · refine Eq.trans ?_ ((congrFun hD _).symm.trans (hb d))
    refine concatenate_apply_piece (t := S1x12288x4) _ _ _ _ 3 ?_ S1x12288x1 D ?_ rfl 3 ?_ (ValueIdx.ix3 (0 : Fin 1) n (0 : Fin 1)) ?_ ?_
    · simp
    · rfl
    · simp
    · intro b h; fin_cases b <;> first | rfl | exact absurd rfl h
    · rfl

/-- The anchors. -/
def anch (V : Valuation τ sig (Elt Ideal)) : FVec Ideal S1x12288x4 .f32 := V (Proc.devRef .tc main_v101)
/-- The box head's numbers, box by box. -/
def tr (V : Valuation τ sig (Elt Ideal)) : FVec Ideal S1x12288x4 .f32 := V (Proc.devRef .tc main_v104)
/-- The moved boxes. -/
def moved (V : Valuation τ sig (Elt Ideal)) : FVec Ideal S1x12288x4 .f32 := V (Proc.devRef .tc main_v133)
/-- Their corners. -/
def corners (V : Valuation τ sig (Elt Ideal)) : FVec Ideal S1x12288x4 .f32 := V (Proc.devRef .tc main_v161)
/-- The clipped corners. -/
def cx1 (V : Valuation τ sig (Elt Ideal)) : FVec Ideal S1x12288 .f32 := V (Proc.devRef .tc main_v164)
def cy1 (V : Valuation τ sig (Elt Ideal)) : FVec Ideal S1x12288 .f32 := V (Proc.devRef .tc main_v167)
def cx2 (V : Valuation τ sig (Elt Ideal)) : FVec Ideal S1x12288 .f32 := V (Proc.devRef .tc main_v170)
def cy2 (V : Valuation τ sig (Elt Ideal)) : FVec Ideal S1x12288 .f32 := V (Proc.devRef .tc main_v173)
/-- The scores, box by box. -/
def logits (V : Valuation τ sig (Elt Ideal)) : FVec Ideal S1x12288x1 .f32 := V (Proc.devRef .tc main_v136)
/-- The clipped boxes, centres and lengths. -/
def boxes4 (V : Valuation τ sig (Elt Ideal)) : FVec Ideal S1x12288x4 .f32 := V (Proc.devRef .tc main_v191)
/-- The scores with the boxes less than a pixel wide or high ruled out. -/
def scores (V : Valuation τ sig (Elt Ideal)) : FVec Ideal S12288 .f32 := V (Proc.devRef .tc main_v194)

/-- The splat of a word over the boxes. -/
abbrev splat (w : BitVec 32) : FVec Ideal S1x12288 .f32 := broadcastInDim S1x12288 ![] bcast_S_S1x12288 (constant S_ .f32 w : FVec Ideal S_ .f32)

set_option maxHeartbeats 400000 in
theorem moved_eq (V : Valuation τ sig (Elt Ideal)) : moved (pre V) =
    stack (addf (col0 (anch (pre V))) (mulf (col0 (tr (pre V))) (col2 (anch (pre V)))))
      (addf (col1 (anch (pre V))) (mulf (col1 (tr (pre V))) (col3 (anch (pre V)))))
      (mulf (col2 (anch (pre V))) (Host.exp (col2 (tr (pre V)))))
      (mulf (col3 (anch (pre V))) (Host.exp (col3 (tr (pre V))))) := by
  unfold moved anch tr col0 col1 col2 col3
  simp only [pre, afterL_cons, afterL_nil]
  generalize (after (hostOps0_7 (F := Ideal)) _) = W
  after_reads_simp
  refine cat_eq ?_ ?_ ?_ ?_ <;> · simp only [Matrix.cons_val]; after_reads_simp; rfl

set_option maxHeartbeats 400000 in
theorem corners_eq (V : Valuation τ sig (Elt Ideal)) : corners (pre V) =
    stack (subf (col0 (moved (pre V))) (Host.divf (col2 (moved (pre V))) (splat 0x40000000#32)))
      (subf (col1 (moved (pre V))) (Host.divf (col3 (moved (pre V))) (splat 0x40000000#32)))
      (addf (col0 (moved (pre V))) (Host.divf (col2 (moved (pre V))) (splat 0x40000000#32)))
      (addf (col1 (moved (pre V))) (Host.divf (col3 (moved (pre V))) (splat 0x40000000#32))) := by
  unfold corners moved col0 col1 col2 col3
  simp only [pre, afterL_cons, afterL_nil]
  generalize (after (hostOps0_7 (F := Ideal)) _) = W
  after_reads_simp
  refine cat_eq ?_ ?_ ?_ ?_ <;> · simp only [Matrix.cons_val]; after_reads_simp; rfl

set_option maxHeartbeats 400000 in
theorem clipped_eq (V : Valuation τ sig (Elt Ideal)) :
    cx1 (pre V) = minimumf (splat 0x43FF8000#32) (maximumf (splat 0x00000000#32) (col0 (corners (pre V))))
    ∧ cy1 (pre V) = minimumf (splat 0x43FF8000#32) (maximumf (splat 0x00000000#32) (col1 (corners (pre V))))
    ∧ cx2 (pre V) = minimumf (splat 0x43FF8000#32) (maximumf (splat 0x00000000#32) (col2 (corners (pre V))))
    ∧ cy2 (pre V) = minimumf (splat 0x43FF8000#32) (maximumf (splat 0x00000000#32) (col3 (corners (pre V)))) := by
  unfold cx1 cy1 cx2 cy2 corners col0 col1 col2 col3
  simp only [pre, afterL_cons, afterL_nil]
  generalize (after (hostOps0_7 (F := Ideal)) _) = W
  refine ⟨?_, ?_, ?_, ?_⟩ <;> · after_reads_simp; rfl

set_option maxHeartbeats 400000 in
theorem boxes_eq (V : Valuation τ sig (Elt Ideal)) : boxes4 (pre V) =
    stack (Host.divf (addf (cx1 (pre V)) (cx2 (pre V))) (splat 0x40000000#32))
      (Host.divf (addf (cy1 (pre V)) (cy2 (pre V))) (splat 0x40000000#32))
      (subf (cx2 (pre V)) (cx1 (pre V))) (subf (cy2 (pre V)) (cy1 (pre V))) := by
  unfold boxes4 cx1 cy1 cx2 cy2
  simp only [pre, afterL_cons, afterL_nil]
  generalize (after (hostOps0_15 (F := Ideal)) _) = W
  after_reads_simp
  refine cat_eq ?_ ?_ ?_ ?_ <;> · simp only [Matrix.cons_val]; after_reads_simp

set_option maxHeartbeats 400000 in
theorem scores_eq (V : Valuation τ sig (Elt Ideal)) : scores (pre V) =
    select (shapeCast S12288 (andi (cmpf .oge (subf (cx2 (pre V)) (cx1 (pre V))) (splat 0x3F800000#32))
        (cmpf .oge (subf (cy2 (pre V)) (cy1 (pre V))) (splat 0x3F800000#32))) shapeCasts_S1x12288_S12288)
      (shapeCast S12288 (logits (pre V)) shapeCasts_S1x12288x1_S12288)
      (broadcastInDim S12288 ![] bcast_S_S12288 (constant S_ .f32 0xFF800000#32 : FVec Ideal S_ .f32)) := by
  unfold scores cx1 cy1 cx2 cy2 logits
  simp only [pre, afterL_cons, afterL_nil]
  generalize (after (hostOps0_15 (F := Ideal)) _) = W
  after_reads_simp
  rfl

end Cert.Proof.Ref
-- ==== Proof.RefEntry.lean ====
module

public import proofs.«01_k».proof.Proof.RefBoxes
public import Idealize.ShloMosaic.Lib.StableHlo.ReadAt

/-! What the reference's loop starts from, box by box, from the anchors and the two heads' numbers. -/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.SL.Sem

section
variable (V : Valuation τ sig (Elt Ideal)) (n : Fin 12288)

/-- Box `n`'s moved centre, x. -/
def bcx : EReal := Spec.ctr (anch (pre V) (ValueIdx.ix3 0 n 0)) (anch (pre V) (ValueIdx.ix3 0 n 2)) (tr (pre V) (ValueIdx.ix3 0 n 0))
/-- Box `n`'s moved centre, y. -/
def bcy : EReal := Spec.ctr (anch (pre V) (ValueIdx.ix3 0 n 1)) (anch (pre V) (ValueIdx.ix3 0 n 3)) (tr (pre V) (ValueIdx.ix3 0 n 1))
/-- Box `n`'s width. -/
def bw : EReal := Spec.len (anch (pre V) (ValueIdx.ix3 0 n 2)) (tr (pre V) (ValueIdx.ix3 0 n 2))
/-- Box `n`'s height. -/
def bh : EReal := Spec.len (anch (pre V) (ValueIdx.ix3 0 n 3)) (tr (pre V) (ValueIdx.ix3 0 n 3))

theorem moved_at (j : Fin 4) : moved (pre V) (ValueIdx.ix3 0 n j) = ![bcx V n, bcy V n, bw V n, bh V n] j := by
  rw [moved_eq, stack_apply]
  unfold bcx bcy bw bh Spec.ctr Spec.len
  simp only [← col0_apply, ← col1_apply, ← col2_apply, ← col3_apply]
  fin_cases j <;> rfl

theorem corners_at (j : Fin 4) : corners (pre V) (ValueIdx.ix3 0 n j)
    = ![bcx V n - Ideal.div (bw V n) Spec.two, bcy V n - Ideal.div (bh V n) Spec.two,
        bcx V n + Ideal.div (bw V n) Spec.two, bcy V n + Ideal.div (bh V n) Spec.two] j := by
  rw [corners_eq, stack_apply]
  have h0 := (col0_apply _ _).trans (moved_at V n 0)
  have h1 := (col1_apply _ _).trans (moved_at V n 1)
  have h2 := (col2_apply _ _).trans (moved_at V n 2)
  have h3 := (col3_apply _ _).trans (moved_at V n 3)
  fin_cases j
  · exact congrArg₂ (fun a b : EReal => a - Ideal.div b Spec.two) h0 h2
  · exact congrArg₂ (fun a b : EReal => a - Ideal.div b Spec.two) h1 h3
  · exact congrArg₂ (fun a b : EReal => a + Ideal.div b Spec.two) h0 h2
  · exact congrArg₂ (fun a b : EReal => a + Ideal.div b Spec.two) h1 h3

theorem cx1_at : cx1 (pre V) (ValueIdx.ix2 0 n) = Spec.lo (bcx V n) (bw V n) := by
  rw [(clipped_eq V).1]
  exact congrArg Spec.clip ((col0_apply _ _).trans (corners_at V n 0))
theorem cy1_at : cy1 (pre V) (ValueIdx.ix2 0 n) = Spec.lo (bcy V n) (bh V n) := by
  rw [(clipped_eq V).2.1]
  exact congrArg Spec.clip ((col1_apply _ _).trans (corners_at V n 1))
theorem cx2_at : cx2 (pre V) (ValueIdx.ix2 0 n) = Spec.hi (bcx V n) (bw V n) := by
  rw [(clipped_eq V).2.2.1]
  exact congrArg Spec.clip ((col2_apply _ _).trans (corners_at V n 2))
theorem cy2_at : cy2 (pre V) (ValueIdx.ix2 0 n) = Spec.hi (bcy V n) (bh V n) := by
  rw [(clipped_eq V).2.2.2]
  exact congrArg Spec.clip ((col3_apply _ _).trans (corners_at V n 3))

/-- Box `n`, clipped: centre and lengths. -/
theorem boxes_at (j : Fin 4) : boxes4 (pre V) (ValueIdx.ix3 0 n j)
    = ![Spec.mid (bcx V n) (bw V n), Spec.mid (bcy V n) (bh V n), Spec.side (bcx V n) (bw V n), Spec.side (bcy V n) (bh V n)] j := by
  rw [boxes_eq, stack_apply]
  have h1 := cx1_at V n
  have h2 := cx2_at V n
  have h3 := cy1_at V n
  have h4 := cy2_at V n
  fin_cases j
  · exact congrArg₂ (fun a b : EReal => Ideal.div (a + b) Spec.two) h1 h2
  · exact congrArg₂ (fun a b : EReal => Ideal.div (a + b) Spec.two) h3 h4
  · exact congrArg₂ (fun a b : EReal => b - a) h1 h2
  · exact congrArg₂ (fun a b : EReal => b - a) h3 h4

/-- Box `n`'s score. -/
theorem scores_at : scores (pre V) (ValueIdx.ix1 n)
    = Spec.score (bcx V n) (bcy V n) (bw V n) (bh V n) (logits (pre V) (ValueIdx.ix3 0 n 0)) := by
  rw [scores_eq]
  show (if shapeCast S12288 _ _ (ValueIdx.ix1 n) = 1#1 then shapeCast S12288 _ _ (ValueIdx.ix1 n) else Spec.ninf) = _
  rw [shapeCast_apply _ shapeCasts_S1x12288_S12288 (ValueIdx.ix1 n) (ValueIdx.ix2 (0 : Fin 1) n) (by simp [Shape.rowMajor_val_one, Shape.rowMajor_val_two]),
    shapeCast_apply _ shapeCasts_S1x12288x1_S12288 (ValueIdx.ix1 n) (ValueIdx.ix3 (0 : Fin 1) n (0 : Fin 1)) (by simp [Shape.rowMajor_val_one, Shape.rowMajor_val_three])]
  have h1 : subf (cx2 (pre V)) (cx1 (pre V)) (ValueIdx.ix2 0 n) = Spec.side (bcx V n) (bw V n) :=
    congrArg₂ (fun a b : EReal => b - a) (cx1_at V n) (cx2_at V n)
  have h2 : subf (cy2 (pre V)) (cy1 (pre V)) (ValueIdx.ix2 0 n) = Spec.side (bcy V n) (bh V n) :=
    congrArg₂ (fun a b : EReal => b - a) (cy1_at V n) (cy2_at V n)
  unfold Spec.score
  rw [← h1, ← h2]
  rfl

end

/-- The last stretch before the loop leaves the boxes as they were. -/
theorem boxes_last (W : Valuation τ sig (Elt Ideal)) : boxes4 (after hostOps0_18 W) = boxes4 W := by
  unfold boxes4
  after_reads_simp

set_option maxHeartbeats 1000000 in
theorem start_last (W : Valuation τ sig (Elt Ideal)) (n : Fin 12288) :
    lef (after hostOps0_18 W) (ValueIdx.ix1 n) = boxes4 W (ValueIdx.ix3 0 n 0) - Ideal.div (boxes4 W (ValueIdx.ix3 0 n 2)) Spec.two
    ∧ top (after hostOps0_18 W) (ValueIdx.ix1 n) = boxes4 W (ValueIdx.ix3 0 n 1) - Ideal.div (boxes4 W (ValueIdx.ix3 0 n 3)) Spec.two
    ∧ rig (after hostOps0_18 W) (ValueIdx.ix1 n) = boxes4 W (ValueIdx.ix3 0 n 0) + Ideal.div (boxes4 W (ValueIdx.ix3 0 n 2)) Spec.two
    ∧ bot (after hostOps0_18 W) (ValueIdx.ix1 n) = boxes4 W (ValueIdx.ix3 0 n 1) + Ideal.div (boxes4 W (ValueIdx.ix3 0 n 3)) Spec.two := by
  unfold lef top rig bot
  refine ⟨?_, ?_, ?_, ?_⟩ <;> · after_reads_at; after_reads_at; rfl

set_option maxHeartbeats 1000000 in
theorem area_last (W : Valuation τ sig (Elt Ideal)) (n : Fin 12288) :
    are (after hostOps0_18 W) (ValueIdx.ix1 n)
      = (rig (after hostOps0_18 W) (ValueIdx.ix1 n) - lef (after hostOps0_18 W) (ValueIdx.ix1 n))
        * (bot (after hostOps0_18 W) (ValueIdx.ix1 n) - top (after hostOps0_18 W) (ValueIdx.ix1 n)) := by
  obtain ⟨h1, h2, h3, h4⟩ := start_last W n
  rw [h1, h2, h3, h4]
  unfold are
  after_reads_at
  after_reads_at
  rfl

set_option maxHeartbeats 1000000 in
/-- The loop starts with every box in, at its score, and no rows written. -/
theorem flags_last (V : Valuation τ sig (Elt Ideal)) :
    scr (pre V) = scores (pre V) ∧ (∀ n : Fin 12288, act (pre V) (ValueIdx.ix1 n) = 1#1) ∧ ∀ j, cnt (pre V) j = 0#32 := by
  unfold scr scores act cnt
  simp only [pre, afterL_cons, afterL_nil]
  generalize (after (hostOps0_17 (F := Ideal)) _) = W
  refine ⟨?_, fun n => ?_, fun j => ?_⟩
  · after_reads_simp; rfl
  · after_reads_simp; rfl
  · after_reads_simp; rfl

/-- The loop's boxes at the start, corner by corner, and their areas. -/
theorem start_at (V : Valuation τ sig (Elt Ideal)) (n : Fin 12288) :
    lef (pre V) (ValueIdx.ix1 n) = Spec.beg (bcx V n) (bw V n) ∧ top (pre V) (ValueIdx.ix1 n) = Spec.beg (bcy V n) (bh V n)
    ∧ rig (pre V) (ValueIdx.ix1 n) = Spec.fin (bcx V n) (bw V n) ∧ bot (pre V) (ValueIdx.ix1 n) = Spec.fin (bcy V n) (bh V n)
    ∧ are (pre V) (ValueIdx.ix1 n) = (Spec.fin (bcx V n) (bw V n) - Spec.beg (bcx V n) (bw V n))
        * (Spec.fin (bcy V n) (bh V n) - Spec.beg (bcy V n) (bh V n)) := by
  have e := boxes_at V n
  have hs := start_last (afterL [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17] V) n
  have ha := area_last (afterL [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17] V) n
  simp only [afterL_cons, afterL_nil] at hs ha
  simp only [pre, afterL_cons, afterL_nil] at e ⊢
  rw [boxes_last] at e
  obtain ⟨h1, h2, h3, h4⟩ := hs
  rw [e 0, e 2] at h1 h3
  rw [e 1, e 3] at h2 h4
  refine ⟨h1, h2, h3, h4, ha.trans ?_⟩
  rw [h1, h2, h3, h4]
  rfl

end Cert.Proof.Ref
-- ==== Proof.Net.lean ====
module

public import proofs.«01_k».proof.Proof.Spec
public import Idealize.ShloMosaic.Lib.Pointwise.Index

/-! The convolutional trunk and its two heads in plain extended reals, from the arguments, and the boxes they give. Both
    programs compute these numbers, each in its own layout. -/

@[expose] public section

noncomputable section

namespace Cert.Proof

open Idealize.ShloMosaic

/-- The arguments, and the anchors' widths and heights. -/
structure Net where
  /-- The features, channel by channel. -/
  x : (⟨4, ![1, 512, 32, 32]⟩ : Shape).Idx → EReal
  /-- The trunk's weights. -/
  w1 : (⟨4, ![256, 512, 3, 3]⟩ : Shape).Idx → EReal
  /-- The trunk's offsets. -/
  b1 : (⟨1, ![256]⟩ : Shape).Idx → EReal
  /-- The box head's weights: channel `4k + d` gives the number `d` of anchor `k`. -/
  wb : (⟨4, ![48, 256, 1, 1]⟩ : Shape).Idx → EReal
  /-- The box head's offsets. -/
  bb : (⟨1, ![48]⟩ : Shape).Idx → EReal
  /-- The score head's weights. -/
  wr : (⟨4, ![12, 256, 1, 1]⟩ : Shape).Idx → EReal
  /-- The score head's offsets. -/
  br : (⟨1, ![12]⟩ : Shape).Idx → EReal
  /-- Anchor `k`'s width (0) and height (1). -/
  wh : Fin 12 → Fin 2 → EReal

namespace Net

variable (N : Net)

/-- The features of channel `c` with a border of zeros one wide: `(i, j)` is the pixel `(i - 1, j - 1)`. -/
def pad (c : Fin 512) (i j : Nat) : EReal :=
  if h : (1 ≤ i ∧ i - 1 < 32) ∧ 1 ≤ j ∧ j - 1 < 32 then N.x (ix4 0 c ⟨i - 1, h.1.2⟩ ⟨j - 1, h.2.2⟩)
  else FloatOps.sitofp (F := Ideal) FTy.f32 0#32

/-- One tap `(d, e)` of the trunk's 3 by 3 window, for filter `o` at pixel `(h, w)`: the sum over the channels. -/
def tap (o : Fin 256) (h w : Nat) (d e : Fin 3) : EReal :=
  ∑ c : Fin 512, N.w1 (ix4 o c d e) * N.pad c (d.val + h) (e.val + w)

/-- The trunk: the sum over the nine taps, plus the offset, cut off below at zero. -/
def base (o : Fin 256) (h w : Nat) : EReal :=
  max ((∑ d : Fin 3, ∑ e : Fin 3, N.tap o h w d e) + N.b1 (ix1 o)) 0

/-- Box `n`'s anchor `k`: the boxes stand anchor by anchor, then row by row. -/
def anchor (n : Fin 12288) : Fin 12 := ⟨n.val / 1024, by omega⟩

/-- The box head's number `d` for box `n`. -/
def box (n : Fin 12288) (d : Fin 4) : EReal :=
  (∑ c : Fin 256, N.wb (ix4 ⟨n.val / 1024 * 4 + d.val, by omega⟩ c 0 0) * N.base c (n.val / 32 % 32) (n.val % 32))
    + N.bb (ix1 ⟨n.val / 1024 * 4 + d.val, by omega⟩)

/-- The score head's number for box `n`. -/
def logit (n : Fin 12288) : EReal :=
  (∑ c : Fin 256, N.wr (ix4 (anchor n) c 0 0) * N.base c (n.val / 32 % 32) (n.val % 32)) + N.br (ix1 (anchor n))

/-- The image coordinate of the feature map's row or column `i`. -/
def grid (i : Nat) : EReal :=
  Ideal.ofBits FTy.f32 0x40F00000#32 + Ideal.ofBits FTy.f32 0x41800000#32 * FloatOps.sitofp (F := Ideal) FTy.f32 (BitVec.ofNat 32 i)

/-- Box `n`'s centre before clipping, x. -/
def cx (n : Fin 12288) : EReal := Spec.ctr (grid (n.val % 32)) (N.wh (anchor n) 0) (N.box n 0)
/-- Box `n`'s centre before clipping, y. -/
def cy (n : Fin 12288) : EReal := Spec.ctr (grid (n.val / 32 % 32)) (N.wh (anchor n) 1) (N.box n 1)
/-- Box `n`'s width before clipping. -/
def w (n : Fin 12288) : EReal := Spec.len (N.wh (anchor n) 0) (N.box n 2)
/-- Box `n`'s height before clipping. -/
def h (n : Fin 12288) : EReal := Spec.len (N.wh (anchor n) 1) (N.box n 3)

end Net

end Cert.Proof
-- ==== Proof.RefNet.lean ====
module

public import proofs.«01_k».proof.Proof.RefEntry
public import proofs.«01_k».proof.Proof.Net

/-! The reference's trunk, heads and anchors, read at an index, are those of `Net`. -/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.SL.Sem

/-- The trunk's result. -/
def baseR (V : Valuation τ sig (Elt Ideal)) : FVec Ideal S1x256x32x32 .f32 := V (Proc.devRef .tc main_v52)
/-- The features with their border. -/
def padded (V : Valuation τ sig (Elt Ideal)) : FVec Ideal S512x34x34 .f32 := V (Proc.devRef .tc main_v1)

/-- The network of the arguments in `V`. -/
def netOf (V : Valuation τ sig (Elt Ideal)) : Net where
  x := V (Proc.devRef .tc main_arg0)
  w1 := V (Proc.devRef .tc main_arg1)
  b1 := V (Proc.devRef .tc main_arg2)
  wb := V (Proc.devRef .tc main_arg3)
  bb := V (Proc.devRef .tc main_arg4)
  wr := V (Proc.devRef .tc main_arg5)
  br := V (Proc.devRef .tc main_arg6)
  wh := fun k d => Ideal.ofBits FTy.f32 (lit0 (S12x2.rowMajor (ix2 k d)))

set_option maxHeartbeats 400000 in
/-- The border is zeros. -/
theorem padded_at (V : Valuation τ sig (Elt Ideal)) (c : Fin 512) (i j : Fin 34) :
    padded (after hostOps0_1 (after hostOps0 V)) (ix3 c i j) = (netOf V).pad c i.val j.val := by
  unfold padded
  after_reads_at
  rfl

set_option maxHeartbeats 1000000 in
/-- The trunk, from the bordered features: the nine taps, the offset and the cut at zero. -/
theorem base_mid (W : Valuation τ sig (Elt Ideal)) (o : Fin 256) (h w : Fin 32) :
    baseR (after hostOps0_3 (after hostOps0_2 W)) (ix4 0 o h w)
      = max ((∑ d : Fin 3, ∑ e : Fin 3, ∑ c : Fin 512, (netOf W).w1 (ix4 o c d e)
          * padded W (ix3 c ⟨d.val + h.val, by omega⟩ ⟨e.val + w.val, by omega⟩)) + (netOf W).b1 (ix1 o)) 0 := by
  unfold baseR
  after_reads_at
  simp only [Fin.sum_univ_three, ← add_assoc, Fin.val_zero, Fin.val_one, Fin.val_two, zero_add]
  rfl

set_option maxHeartbeats 400000 in
/-- The arguments stay as they were through the lines that make the border. -/
theorem args_keep (V : Valuation τ sig (Elt Ideal)) : netOf (after hostOps0_1 (after hostOps0 V)) = netOf V := by
  unfold netOf
  after_reads_simp

set_option maxHeartbeats 400000 in
/-- The arguments stay as they were through the trunk. -/
theorem args_keep' (V : Valuation τ sig (Elt Ideal)) :
    netOf (after hostOps0_3 (after hostOps0_2 (after hostOps0_1 (after hostOps0 V)))) = netOf V := by
  unfold netOf
  after_reads_simp

/-- The trunk's result at an index. -/
theorem base_at (V : Valuation τ sig (Elt Ideal)) (o : Fin 256) (h w : Fin 32) :
    baseR (after hostOps0_3 (after hostOps0_2 (after hostOps0_1 (after hostOps0 V)))) (ix4 0 o h w) = (netOf V).base o h.val w.val := by
  rw [base_mid, args_keep]
  unfold Net.base Net.tap
  simp only [padded_at]

set_option maxHeartbeats 1000000 in
/-- The box head's numbers, from the trunk's result. -/
theorem tr_mid (V : Valuation τ sig (Elt Ideal)) (n : Fin 12288) (j : Fin 4) :
    tr (pre V) (ValueIdx.ix3 0 n j) =
      (∑ c : Fin 256, (netOf V).wb (ix4 ⟨n.val / 1024 * 4 + j.val, by omega⟩ c 0 0)
        * baseR (after hostOps0_3 (after hostOps0_2 (after hostOps0_1 (after hostOps0 V))))
            (ix4 0 c ⟨n.val / 32 % 32, by omega⟩ ⟨n.val % 32, by omega⟩))
      + (netOf V).bb (ix1 ⟨n.val / 1024 * 4 + j.val, by omega⟩) := by
  rw [← args_keep' V]
  unfold tr
  simp only [pre, afterL_cons, afterL_nil]
  generalize (after (hostOps0_3 (F := Ideal)) _) = W
  after_reads_at
  rfl

set_option maxHeartbeats 1000000 in
/-- The score head's numbers, from the trunk's result. -/
theorem logits_mid (V : Valuation τ sig (Elt Ideal)) (n : Fin 12288) :
    logits (pre V) (ValueIdx.ix3 0 n 0) =
      (∑ c : Fin 256, (netOf V).wr (ix4 (Net.anchor n) c 0 0)
        * baseR (after hostOps0_3 (after hostOps0_2 (after hostOps0_1 (after hostOps0 V))))
            (ix4 0 c ⟨n.val / 32 % 32, by omega⟩ ⟨n.val % 32, by omega⟩))
      + (netOf V).br (ix1 (Net.anchor n)) := by
  rw [← args_keep' V]
  unfold logits
  simp only [pre, afterL_cons, afterL_nil]
  generalize (after (hostOps0_3 (F := Ideal)) _) = W
  after_reads_at
  rfl

/-- The box head's number `j` for box `n`. -/
theorem tr_at (V : Valuation τ sig (Elt Ideal)) (n : Fin 12288) (j : Fin 4) :
    tr (pre V) (ValueIdx.ix3 0 n j) = (netOf V).box n j := by
  rw [tr_mid]
  simp only [base_at]
  rfl

/-- The score head's number for box `n`. -/
theorem logits_at (V : Valuation τ sig (Elt Ideal)) (n : Fin 12288) :
    logits (pre V) (ValueIdx.ix3 0 n 0) = (netOf V).logit n := by
  rw [logits_mid]
  simp only [base_at]
  rfl

set_option maxHeartbeats 1000000 in
/-- Box `n`'s anchor. -/
theorem anch_at (V : Valuation τ sig (Elt Ideal)) (n : Fin 12288) :
    anch (pre V) (ValueIdx.ix3 0 n 0) = Net.grid (n.val % 32) ∧ anch (pre V) (ValueIdx.ix3 0 n 1) = Net.grid (n.val / 32 % 32)
    ∧ anch (pre V) (ValueIdx.ix3 0 n 2) = (netOf V).wh (Net.anchor n) 0
    ∧ anch (pre V) (ValueIdx.ix3 0 n 3) = (netOf V).wh (Net.anchor n) 1 := by
  unfold anch netOf
  simp only [pre, afterL_cons, afterL_nil]
  refine ⟨?_, ?_, ?_, ?_⟩ <;> · after_reads_at; after_reads_at; rfl

/-- Box `n` before clipping is the network's. -/
theorem raw_eq (V : Valuation τ sig (Elt Ideal)) (n : Fin 12288) :
    bcx V n = (netOf V).cx n ∧ bcy V n = (netOf V).cy n ∧ bw V n = (netOf V).w n ∧ bh V n = (netOf V).h n := by
  obtain ⟨h0, h1, h2, h3⟩ := anch_at V n
  unfold bcx bcy bw bh
  rw [h0, h1, h2, h3, tr_at, tr_at, tr_at, tr_at]
  exact ⟨rfl, rfl, rfl, rfl⟩

end Cert.Proof.Ref
-- ==== Proof.KernelCols.lean ====
module

public import proofs.«01_k».proof.Proof.Result
public import proofs.«01_k».proof.Proof.Net
public import Idealize.ShloMosaic.Lib.StableHlo.ReadAt

/-! The rows of shifted features that the kernel's host code makes, read at an index. -/

@[expose] public section

set_option maxRecDepth 16384

noncomputable section

namespace Cert.Proof

open Cert.KernelIdeal Cert.KernelIdeal.Gen
open Idealize.ShloMosaic Idealize.ShloMosaic.TcCoe Idealize.ShloMosaic.StableHlo Idealize.SL.Sem

/-- The network of the arguments in `V`. -/
def netOf (V : Valuation τ sig (Elt Ideal)) : Net where
  x := V (Proc.devRef .tc main_arg0)
  w1 := V (Proc.devRef .tc main_arg1)
  b1 := V (Proc.devRef .tc main_arg2)
  wb := V (Proc.devRef .tc main_arg3)
  bb := V (Proc.devRef .tc main_arg4)
  wr := V (Proc.devRef .tc main_arg5)
  br := V (Proc.devRef .tc main_arg6)
  wh := fun k d => Ideal.ofBits FTy.f32 (lit0 (S12x2.rowMajor (ix2 k d)))

/-- The features with their border, pixel by pixel. -/
def padK (V : Valuation τ sig (Elt Ideal)) : FVec Ideal S34x34x512 .f32 := V (Proc.devRef .tc main_v3)

set_option maxHeartbeats 400000 in
/-- The border is zeros. -/
theorem padK_at (V : Valuation τ sig (Elt Ideal)) (c : Fin 512) (i j : Fin 34) :
    padK (after hostOps0_1 (after hostOps0 V)) (ix3 i j c) = (netOf V).pad c i.val j.val := by
  unfold padK
  after_reads_at
  rfl

/-- The shifted features, row by row. -/
def colsK (V : Valuation τ sig (Elt Ideal)) : FVec Ideal S4608x1024 .f32 := V (Proc.devRef .tc main_v31)

set_option maxHeartbeats 2000000 in
/-- Row `r` of the shifted features: channel `r % 512` of the bordered features, shifted by the tap `r / 512`. -/
theorem cols_at (W : Valuation τ sig (Elt Ideal)) (r : Fin 4608) (p : Fin 1024) :
    colsK (after hostOps0_2 W) (ix2 r p)
      = padK W (ix3 ⟨r.val / 1536 + p.val / 32, by omega⟩ ⟨r.val / 512 % 3 + p.val % 32, by omega⟩ ⟨r.val % 512, by omega⟩) := by
  unfold colsK
  after_reads_at
  have hr := r.isLt
  split_ifs with h1 h2 h3 h4 h5 h6 h7 h8
  all_goals simp only [ix2_0, ix2_1] at *
  all_goals after_reads_at
  all_goals
    refine congrArg (padK W) ?_
    rw [ix3_inj]
    refine ⟨Fin.ext ?_, Fin.ext ?_, Fin.ext ?_⟩ <;> simp only [ix2_0, ix2_1] <;> omega

end Cert.Proof
-- ==== Proof.KernelNet.lean ====
module

public import proofs.«01_k».proof.Proof.KernelCols
public import proofs.«01_k».proof.Proof.Trip

/-! The kernel's trunk, heads and anchors, read at an index, are those of `Net`: its one product over the 4608 shifted
    feature rows is the sum over the nine taps of the sums over the 512 channels. -/

@[expose] public section

set_option maxRecDepth 16384

noncomputable section

namespace Cert.Proof

open Cert.KernelIdeal Cert.KernelIdeal.Gen
open Idealize.ShloMosaic Idealize.ShloMosaic.TcCoe Idealize.ShloMosaic.StableHlo Idealize.SL.Sem

/-- A sum over `a` blocks of `b`, block by block. -/
theorem sum_blocks {a b : ℕ} (f : Fin (a * b) → EReal) :
    ∑ r, f r = ∑ d : Fin a, ∑ e : Fin b, f (finProdFinEquiv (d, e)) := by
  rw [← Fintype.sum_prod_type', ← Equiv.sum_comp (finProdFinEquiv (m := a) (n := b))]

/-- A sum over the 4608 rows, tap by tap and channel by channel. -/
theorem sum_rows (f : Fin 4608 → EReal) :
    ∑ r, f r = ∑ d : Fin 3, ∑ e : Fin 3, ∑ c : Fin 512, f ⟨(d.val * 3 + e.val) * 512 + c.val, by omega⟩ := by
  rw [show ∑ r, f r = ∑ t : Fin 9, ∑ c : Fin 512, f (finProdFinEquiv (m := 9) (n := 512) (t, c)) from sum_blocks (a := 9) (b := 512) f,
    show ∀ g : Fin 9 → EReal, ∑ t, g t = ∑ d : Fin 3, ∑ e : Fin 3, g (finProdFinEquiv (m := 3) (n := 3) (d, e)) from
      sum_blocks (a := 3) (b := 3)]
  refine Finset.sum_congr rfl fun d _ => Finset.sum_congr rfl fun e _ => Finset.sum_congr rfl fun c _ => congrArg f (Fin.ext ?_)
  simp only [finProdFinEquiv_apply_val]
  omega

/-- The host lines before the call. -/
abbrev preK (V : Valuation τ sig (Elt Ideal)) : Valuation τ sig (Elt Ideal) := after hostOps0_2 (after hostOps0_1 (after hostOps0 V))

/-- The call's inputs among the buffers `U`. -/
def insOf (U : Valuation τ sig (Elt Ideal)) : Ins Ideal where
  x0 := U (Proc.devRef .tc main_v31)
  x1 := U (Proc.devRef .tc main_v33)
  x2 := U (Proc.devRef .tc main_v34)
  x3 := U (Proc.devRef .tc main_v36)
  x4 := U (Proc.devRef .tc main_v38)
  x5 := U (Proc.devRef .tc main_v40)
  x6 := U (Proc.devRef .tc main_v42)
  x7 := U (Proc.devRef .tc main_v44)
  x8 := U (Proc.devRef .tc main_v46)
  x9 := U (Proc.devRef .tc main_v48)
  x10 := U (Proc.devRef .tc main_v50)
  x11 := U (Proc.devRef .tc main_v51)
  x12 := U (Proc.devRef .tc main_v52)
  x13 := U (Proc.devRef .tc main_v65)
  x14 := U (Proc.devRef .tc main_v68)
  x15 := U (Proc.devRef .tc main_v73)
  x16 := U (Proc.devRef .tc main_v78)

variable (V : Valuation τ sig (Elt Ideal))

/-- The shifted features, from the arguments. -/
theorem x0_at (r : Fin 4608) (p : Fin 1024) :
    (insOf (preK V)).x0 (ix2 r p) = (netOf V).pad ⟨r.val % 512, by omega⟩ (r.val / 1536 + p.val / 32) (r.val / 512 % 3 + p.val % 32) :=
  (cols_at _ r p).trans (padK_at V _ _ _)

set_option maxHeartbeats 1000000 in
/-- The trunk's weights and offsets, from the arguments. -/
theorem trunk_in (o : Fin 256) (r : Fin 4608) :
    (insOf (preK V)).x1 (ix2 o r) = (netOf V).w1 (ix4 o ⟨r.val % 512, by omega⟩ ⟨r.val / 1536, by omega⟩ ⟨r.val / 512 % 3, by omega⟩)
    ∧ (insOf (preK V)).x2 (ix2 o 0) = (netOf V).b1 (ix1 o) := by
  unfold insOf netOf
  constructor <;> · dsimp only; after_reads_at

set_option maxHeartbeats 1000000 in
/-- The trunk's payload at an index. -/
theorem trunk_pay (x1 : Vec Ideal S256x4608 .f32) (x0 : Vec Ideal S4608x1024 .f32) (x2 : Vec Ideal S256x1 .f32) (o : Fin 256) (p : Fin 1024) :
    (k0_pay16 (F := Ideal) x1 x0 x2 : FVec Ideal S256x1024 .f32) (ix2 o p)
      = max ((∑ r : Fin 4608, x1 (ix2 o r) * x0 (ix2 r p)) + x2 (ix2 o 0)) 0 := by
  unfold k0_pay16
  pointwise

/-- The kernel's trunk is the network's. -/
theorem trunk_at (o : Fin 256) (p : Fin 1024) :
    (insOf (preK V)).trunk (ix2 o p) = (netOf V).base o (p.val / 32) (p.val % 32) := by
  unfold Ins.trunk Net.base Net.tap
  rw [trunk_pay, sum_rows, (trunk_in V o 0).2]
  simp only [(trunk_in V o _).1, x0_at]
  refine congrArg (fun s => max (s + _) 0) (Finset.sum_congr rfl fun d _ => Finset.sum_congr rfl fun e _ => Finset.sum_congr rfl fun c _ => ?_)
  have e1 : ((d.val * 3 + e.val) * 512 + c.val) % 512 = c.val := by omega
  have e2 : ((d.val * 3 + e.val) * 512 + c.val) / 1536 = d.val := by omega
  have e3 : ((d.val * 3 + e.val) * 512 + c.val) / 512 % 3 = e.val := by omega
  simp only [e1, e2, e3]

set_option maxHeartbeats 1000000 in
/-- A head's payload at an index. -/
theorem head_pay (t : FVec Ideal S256x1024 .f32) (w : Vec Ideal S12x256 .f32) (b : Vec Ideal S12x1 .f32) (k : Fin 96) (q : Fin 128) :
    (k0_pay20 (F := Ideal) t w b : FVec Ideal S96x128 .f32) (ix2 k q)
      = (∑ x : Fin 256, w (ix2 ⟨k.val / 8, by omega⟩ x) * t (ix2 x ⟨k.val % 8 * 128 + q.val, by omega⟩)) + b (ix2 ⟨k.val / 8, by omega⟩ 0) := by
  unfold k0_pay20
  pointwise

/-- Box `n`'s place in the kernel's tables: row `n / 128`, column `n % 128`. -/
theorem place (n : Fin 12288) : numE.symm n = ix2 (⟨n.val / 128, by omega⟩ : Fin 96) (⟨n.val % 128, by omega⟩ : Fin 128) := by
  rw [Equiv.symm_apply_eq]
  refine Fin.ext ?_
  rw [numE_val]
  show n.val = n.val / 128 * 128 + n.val % 128
  omega

/-- A head over the kernel's trunk, at box `n`. -/
theorem head_at (w : Vec Ideal S12x256 .f32) (b : Vec Ideal S12x1 .f32) (n : Fin 12288) :
    fl (k0_pay20 (F := Ideal) (insOf (preK V)).trunk w b) n
      = (∑ x : Fin 256, w (ix2 (Net.anchor n) x) * (netOf V).base x (n.val / 32 % 32) (n.val % 32)) + b (ix2 (Net.anchor n) 0) := by
  unfold fl
  rw [place, head_pay]
  simp only [trunk_at]
  have e1 : (⟨n.val / 128 / 8, by omega⟩ : Fin 12) = Net.anchor n := Fin.ext (by show n.val / 128 / 8 = n.val / 1024; omega)
  have e2 : (n.val / 128 % 8 * 128 + n.val % 128) / 32 = n.val / 32 % 32 := by omega
  have e3 : (n.val / 128 % 8 * 128 + n.val % 128) % 32 = n.val % 32 := by omega
  simp only [e1, e2, e3]

set_option maxHeartbeats 2000000 in
/-- The heads' weights and offsets, from the arguments. -/
theorem head_in (k : Fin 12) (x : Fin 256) :
    ((insOf (preK V)).x3 (ix2 k x) = (netOf V).wb (ix4 ⟨k.val * 4 + 0, by omega⟩ x 0 0)
      ∧ (insOf (preK V)).x7 (ix2 k 0) = (netOf V).bb (ix1 ⟨k.val * 4 + 0, by omega⟩))
    ∧ ((insOf (preK V)).x4 (ix2 k x) = (netOf V).wb (ix4 ⟨k.val * 4 + 1, by omega⟩ x 0 0)
      ∧ (insOf (preK V)).x8 (ix2 k 0) = (netOf V).bb (ix1 ⟨k.val * 4 + 1, by omega⟩))
    ∧ ((insOf (preK V)).x5 (ix2 k x) = (netOf V).wb (ix4 ⟨k.val * 4 + 2, by omega⟩ x 0 0)
      ∧ (insOf (preK V)).x9 (ix2 k 0) = (netOf V).bb (ix1 ⟨k.val * 4 + 2, by omega⟩))
    ∧ ((insOf (preK V)).x6 (ix2 k x) = (netOf V).wb (ix4 ⟨k.val * 4 + 3, by omega⟩ x 0 0)
      ∧ (insOf (preK V)).x10 (ix2 k 0) = (netOf V).bb (ix1 ⟨k.val * 4 + 3, by omega⟩))
    ∧ ((insOf (preK V)).x11 (ix2 k x) = (netOf V).wr (ix4 k x 0 0)
      ∧ (insOf (preK V)).x12 (ix2 k 0) = (netOf V).br (ix1 k)) := by
  unfold insOf netOf
  refine ⟨⟨?_, ?_⟩, ⟨?_, ?_⟩, ⟨?_, ?_⟩, ⟨?_, ?_⟩, ?_, ?_⟩
  all_goals
    dsimp only
    after_reads_at
    try simp only [Nat.mul_comm 4, Nat.add_comm _ (k.val * 4)]

set_option maxHeartbeats 2000000 in
/-- The anchors' tables, from the arguments. -/
theorem anchor_in (k : Fin 96) (q : Fin 128) :
    (insOf (preK V)).x13 (ix2 k q) = Net.grid (q.val % 32) ∧ (insOf (preK V)).x14 (ix2 k q) = Net.grid (k.val % 8 * 4 + q.val / 32)
    ∧ (insOf (preK V)).x15 (ix2 k q) = (netOf V).wh ⟨k.val / 8, by omega⟩ 0
    ∧ (insOf (preK V)).x16 (ix2 k q) = (netOf V).wh ⟨k.val / 8, by omega⟩ 1 := by
  unfold insOf netOf
  refine ⟨?_, ?_, ?_, ?_⟩ <;> · dsimp only; after_reads_at; try rfl

end Cert.Proof
-- ==== Proof.KernelBoxes.lean ====
module

public import proofs.«01_k».proof.Proof.KernelNet
public import proofs.«01_k».proof.Proof.Row

/-! The kernel's tables of boxes and scores, box by box, are the ones that `Spec` computes from `Net`. -/

@[expose] public section

set_option maxRecDepth 16384

noncomputable section

namespace Cert.Proof

open Cert.KernelIdeal Cert.KernelIdeal.Gen
open Idealize.ShloMosaic Idealize.ShloMosaic.TcCoe Idealize.ShloMosaic.StableHlo Idealize.SL.Sem

/-- The moved centres at an index. -/
theorem ctr_pay (d a e : FVec Ideal S96x128 .f32) (k : Fin 96) (q : Fin 128) :
    (k0_pay23 (F := Ideal) d a e : FVec Ideal S96x128 .f32) (ix2 k q) = Spec.ctr (a (ix2 k q)) (e (ix2 k q)) (d (ix2 k q))
    ∧ (k0_pay24 (F := Ideal) d a e : FVec Ideal S96x128 .f32) (ix2 k q) = Spec.ctr (a (ix2 k q)) (e (ix2 k q)) (d (ix2 k q)) := by
  unfold k0_pay23 k0_pay24 k0_pay21 k0_pay22 Spec.ctr
  constructor <;> · pointwise

/-- The scaled widths at an index. -/
theorem len_pay (d e : FVec Ideal S96x128 .f32) (k : Fin 96) (q : Fin 128) :
    (k0_pay25 (F := Ideal) d e : FVec Ideal S96x128 .f32) (ix2 k q) = Spec.len (e (ix2 k q)) (d (ix2 k q)) := by
  unfold k0_pay25 k0_pay21 Spec.len
  pointwise

/-- The heights' payload is the widths' over their own head. -/
theorem len_pay' (t : FVec Ideal S256x1024 .f32) (w : Vec Ideal S12x256 .f32) (b : Vec Ideal S12x1 .f32) (e : FVec Ideal S96x128 .f32) :
    k0_pay26 (F := Ideal) t w b e = k0_pay25 (k0_pay20 t w b) e := rfl

variable (V : Valuation τ sig (Elt Ideal)) (n : Fin 12288)

/-- The four anchors' numbers of box `n`. -/
theorem anchor_at : fl (insOf (preK V)).x13 n = Net.grid (n.val % 32) ∧ fl (insOf (preK V)).x14 n = Net.grid (n.val / 32 % 32)
    ∧ fl (insOf (preK V)).x15 n = (netOf V).wh (Net.anchor n) 0 ∧ fl (insOf (preK V)).x16 n = (netOf V).wh (Net.anchor n) 1 := by
  unfold fl
  rw [place]
  obtain ⟨h0, h1, h2, h3⟩ := anchor_in V ⟨n.val / 128, by omega⟩ ⟨n.val % 128, by omega⟩
  rw [h0, h1, h2, h3]
  have e1 : (⟨n.val / 128 / 8, by omega⟩ : Fin 12) = Net.anchor n := Fin.ext (by show n.val / 128 / 8 = n.val / 1024; omega)
  have e2 : n.val % 128 % 32 = n.val % 32 := by omega
  have e3 : n.val / 128 % 8 * 4 + n.val % 128 / 32 = n.val / 32 % 32 := by omega
  simp only [e1, e2, e3, and_self]

/-- The heads' numbers of box `n`. -/
theorem heads_at : fl (insOf (preK V)).dx n = (netOf V).box n 0 ∧ fl (insOf (preK V)).dy n = (netOf V).box n 1
    ∧ fl (insOf (preK V)).dw n = (netOf V).box n 2
    ∧ fl (k0_pay20 (F := Ideal) (insOf (preK V)).trunk (insOf (preK V)).x6 (insOf (preK V)).x10) n = (netOf V).box n 3
    ∧ fl (insOf (preK V)).logit n = (netOf V).logit n := by
  have h := head_in V (Net.anchor n)
  refine ⟨?_, ?_, ?_, ?_, ?_⟩
  · refine (head_at V _ _ n).trans ?_
    simp only [(h _).1.1, (h 0).1.2]; rfl
  · refine (head_at V _ _ n).trans ?_
    simp only [(h _).2.1.1, (h 0).2.1.2]; rfl
  · refine (head_at V _ _ n).trans ?_
    simp only [(h _).2.2.1.1, (h 0).2.2.1.2]; rfl
  · refine (head_at V _ _ n).trans ?_
    simp only [(h _).2.2.2.1.1, (h 0).2.2.2.1.2]; rfl
  · refine (head_at V _ _ n).trans ?_
    simp only [(h _).2.2.2.2.1, (h 0).2.2.2.2.2]; rfl

/-- Box `n` before clipping is the network's. -/
theorem raw_at : fl (insOf (preK V)).cx n = (netOf V).cx n ∧ fl (insOf (preK V)).cy n = (netOf V).cy n
    ∧ fl (insOf (preK V)).bw n = (netOf V).w n ∧ fl (insOf (preK V)).bh n = (netOf V).h n := by
  obtain ⟨a0, a1, a2, a3⟩ := anchor_at V n
  obtain ⟨b0, b1, b2, b3, -⟩ := heads_at V n
  unfold Net.cx Net.cy Net.w Net.h
  rw [← a0, ← a1, ← a2, ← a3, ← b0, ← b1, ← b2, ← b3]
  unfold fl Ins.cx Ins.cy Ins.bw Ins.bh
  rw [place, len_pay', len_pay, len_pay, (ctr_pay _ _ _ _ _).1, (ctr_pay _ _ _ _ _).2]
  exact ⟨rfl, rfl, rfl, rfl⟩

/-- The clipped boxes of any inputs: centre, width and height. -/
theorem tab_cwh (I : Ins Ideal) (j : Fin 4) : I.tab.cwh n j
    = ![Spec.mid (fl I.cx n) (fl I.bw n), Spec.mid (fl I.cy n) (fl I.bh n), Spec.side (fl I.cx n) (fl I.bw n), Spec.side (fl I.cy n) (fl I.bh n)] j := by
  fin_cases j <;> rfl

/-- The clipped boxes of any inputs: the corners and the area. -/
theorem tab_boxes (I : Ins Ideal) :
    fl I.tab.x1 n = Spec.beg (fl I.cx n) (fl I.bw n) ∧ fl I.tab.y1 n = Spec.beg (fl I.cy n) (fl I.bh n)
    ∧ fl I.tab.x2 n = Spec.fin (fl I.cx n) (fl I.bw n) ∧ fl I.tab.y2 n = Spec.fin (fl I.cy n) (fl I.bh n)
    ∧ fl I.tab.area n = (Spec.fin (fl I.cx n) (fl I.bw n) - Spec.beg (fl I.cx n) (fl I.bw n))
        * (Spec.fin (fl I.cy n) (fl I.bh n) - Spec.beg (fl I.cy n) (fl I.bh n)) :=
  ⟨rfl, rfl, rfl, rfl, rfl⟩

/-- The scores of any inputs. -/
theorem score_eq (I : Ins Ideal) : fl I.score0 n = Spec.score (fl I.cx n) (fl I.cy n) (fl I.bw n) (fl I.bh n) (fl I.logit n) := rfl

end Cert.Proof
-- ==== Proof.Equal.lean ====
module

public import proofs.«01_k».proof.Proof.KernelBoxes
public import proofs.«01_k».proof.Proof.RefNet
public import proofs.«01_k».proof.Proof.Greedy
public import proofs.«01_k».proof.Proof.RefRun

/-! From equal arguments the kernel and the reference end with equal results: the same network gives both the same
    boxes and scores, the two greedy selections then walk side by side, and the kernel's rows are the reference's boxes
    and flags. -/

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo Idealize.SL.Sem

section Start

variable (K : Valuation Cert.KernelIdeal.τ Cert.KernelIdeal.sig (Elt Ideal)) (V : Valuation τ sig (Elt Ideal))
variable (hN : Cert.Proof.netOf K = netOf V)

include hN

/-- Both sides have the same boxes and logits before clipping. -/
theorem same_raw (n : Fin 12288) :
    (fl (insOf (preK K)).cx n = bcx V n ∧ fl (insOf (preK K)).cy n = bcy V n ∧ fl (insOf (preK K)).bw n = bw V n
      ∧ fl (insOf (preK K)).bh n = bh V n) ∧ fl (insOf (preK K)).logit n = logits (pre V) (ValueIdx.ix3 0 n 0) := by
  obtain ⟨a0, a1, a2, a3⟩ := raw_at K n
  obtain ⟨b0, b1, b2, b3⟩ := raw_eq V n
  rw [a0, a1, a2, a3, b0, b1, b2, b3, (heads_at K n).2.2.2.2, logits_at, hN]
  exact ⟨⟨rfl, rfl, rfl, rfl⟩, rfl⟩

/-- Both loops start with the same corners and areas. -/
theorem same_boxes : boxesOf (pre V) = (insOf (preK K)).tab.boxes := by
  unfold boxesOf Tab.boxes
  congr 1 <;> funext n <;> obtain ⟨⟨e0, e1, e2, e3⟩, -⟩ := same_raw K V hN n <;>
    obtain ⟨s0, s1, s2, s3, s4⟩ := start_at V n <;> obtain ⟨t0, t1, t2, t3, t4⟩ := tab_boxes n (insOf (preK K)) <;>
    rw [e0, e2] at * <;> rw [e1, e3] at *
  · exact s0.trans t0.symm
  · exact s1.trans t1.symm
  · exact s2.trans t2.symm
  · exact s3.trans t3.symm
  · exact s4.trans t4.symm

/-- Both loops start with the same scores. -/
theorem same_scores : live (pre V) = fl (insOf (preK K)).score0 := by
  funext n
  obtain ⟨⟨e0, e1, e2, e3⟩, e4⟩ := same_raw K V hN n
  rw [live_apply, if_pos ((flags_last V).2.1 n), (flags_last V).1, scores_at, score_eq, e0, e1, e2, e3, e4]

/-- Both results read the same table of centres and lengths. -/
theorem same_table (n : Fin 12288) (j : Fin 4) : (boxes4 (pre V) (ValueIdx.ix3 0 n j) : EReal) = (insOf (preK K)).tab.cwh n j := by
  obtain ⟨⟨e0, e1, e2, e3⟩, -⟩ := same_raw K V hN n
  rw [boxes_at, tab_cwh, e0, e1, e2, e3]

end Start

section Finish

variable (m : (ℓ : Loc nD τ sig) → Buf (Elt Ideal) ℓ) (c : Dev nD)
variable (K : Valuation Cert.KernelIdeal.τ Cert.KernelIdeal.sig (Elt Ideal)) (hN : Cert.Proof.netOf K = netOf (launchContents m c))

/-- The buffers when the loop has ended. -/
abbrev done : Valuation τ sig (Elt Ideal) := after condOps (atK m 300 c)

/-- The table of boxes is still what it was before the loop. -/
theorem done_box : box (done m c) = boxes4 (pre (launchContents m c)) :=
  (after_of_writes_sub condOps (atK m 300 c) condOps_writes (by decide +kernel : main_v191 ∉ condOps_W)).trans
    (loop_keep m main_v191 (by decide +kernel) c 300)

/-- The numbers kept are those of 300 steps. -/
theorem done_kept : kept (done m c) = kept (STEP^[300] (pre (launchContents m c))) :=
  (after_of_writes_sub condOps (atK m 300 c) condOps_writes (by decide +kernel : main_v234_9 ∉ condOps_W)).trans
    (atK_agree m c 300 main_v234_9 (by decide))

include hN

/-- The numbers kept are the kernel's picks. -/
theorem done_keeps (r : Fin 300) :
    kept (done m c) (ValueIdx.ix1 r) = keepOf (insOf (preK K)).tab (insOf (preK K)).score0 r.val := by
  rw [done_kept]
  exact (walk _ _ _ (same_boxes K _ hN) (same_scores K _ hN) (flags_last _).2.2 300 le_rfl).2.2.2 r r.isLt

/-- The reference's boxes are the kernel's rows' first four lanes. -/
theorem final_rois (r : Fin 300) (j : Fin 4) :
    ((finalContents condOps preI bodyI postI 300 m c (Proc.devRef .tc main_v250) : FVec Ideal S300x4 .f32) (ValueIdx.ix2 r j) : EReal)
      = (insOf (preK K)).tab.row ((insOf (preK K)).tab.sc (insOf (preK K)).score0 r.val) (ValueIdx.ix2 0 ⟨j.val, by omega⟩) := by
  refine (congrFun (last_rois (done m c)) (ValueIdx.ix2 r j)).trans ?_
  rw [row_box _ _ (won_first _ _ r.val)]
  refine rois_at (done m c) (insOf (preK K)).tab (insOf (preK K)).score0 (fun n j => ?_) r j (done_keeps m c K hN r)
  rw [done_box]
  exact same_table K _ hN n j

/-- The reference's flags are the kernel's rows' fifth lane. -/
theorem final_mask (r : Fin 300) :
    ((finalContents condOps preI bodyI postI 300 m c (Proc.devRef .tc main_v239) : FVec Ideal S300 .f32) (ValueIdx.ix1 r) : EReal)
      = (insOf (preK K)).tab.row ((insOf (preK K)).tab.sc (insOf (preK K)).score0 r.val) (ValueIdx.ix2 0 4) := by
  refine (congrFun (last_mask (done m c)) (ValueIdx.ix1 r)).trans ?_
  rw [row_flag _ _ (won_first _ _ r.val)]
  exact mask_at (done m c) (insOf (preK K)).tab (insOf (preK K)).score0 r (done_keeps m c K hN r)

end Finish

end Cert.Proof.Ref
-- ==== Proof.Algebraic.lean ====
module

public import proofs.«01_k».proof.Defs
public import proofs.«01_k».proof.Proof.Equal

/-! The value claim: from equal arguments both programs end with equal results. -/

@[expose] public section

set_option maxRecDepth 16384

noncomputable section

namespace Cert.Proof

open Idealize.ShloMosaic Idealize.ShloMosaic.TcCoe Idealize.ShloMosaic.StableHlo Idealize.SL.Sem

/-- The call's inputs are those that the host lines make of the arguments. -/
theorem insV_eq (m : (ℓ : Loc Cert.KernelIdeal.nD Cert.KernelIdeal.τ Cert.KernelIdeal.sig) → Buf (Elt Ideal) ℓ) (c : Dev Cert.KernelIdeal.nD) :
    insV m c = insOf (preK fun b => m (c, b)) := by
  unfold insV insOf preK
  simp only [Cert.KernelIdeal.Gen.V, Cert.KernelIdeal.Gen.V0, List.flatten_cons, List.flatten_nil, List.append_nil, after_append]

/-- The kernel's idealization and the reference, from equal arguments, end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  have hN : ∀ c : Dev Cert.KernelIdeal.nD, netOf (fun b => m (c, b)) = Ref.netOf (launchContents m' c) := fun c => by
    obtain ⟨h0, h1, h2, h3, h4, h5, h6⟩ := hargs c
    unfold netOf Ref.netOf
    congr 1
    · exact h0.symm
    · exact h1.symm
    · exact h2.symm
    · exact h3.symm
    · exact h4.symm
    · exact h5.symm
    · exact h6.symm
  refine ⟨fun c => finalContents Cert.ReferenceIdeal.Value.condOps Cert.ReferenceIdeal.Value.preI Cert.ReferenceIdeal.Value.bodyI
      Cert.ReferenceIdeal.Value.postI 300 m' c (Proc.devRef .tc Cert.ReferenceIdeal.main_v250),
    fun c => finalContents Cert.ReferenceIdeal.Value.condOps Cert.ReferenceIdeal.Value.preI Cert.ReferenceIdeal.Value.bodyI
      Cert.ReferenceIdeal.Value.postI 300 m' c (Proc.devRef .tc Cert.ReferenceIdeal.main_v239), ?_, ?_⟩
  · refine (θ_run _ _ _).mono (fun r h c => ?_) (run m g)
    obtain ⟨hr, hm⟩ := results m (h.1 c)
    rw [insV_eq] at hr hm
    refine ⟨funext fun i => ?_, funext fun i => ?_, end_arg m _ rfl (by decide) (by decide) (Cert.KernelIdeal.Gen.V_main_arg0 m c) (h.1 c),
      end_arg m _ rfl (by decide) (by decide) (Cert.KernelIdeal.Gen.V_main_arg1 m c) (h.1 c),
      end_arg m _ rfl (by decide) (by decide) (Cert.KernelIdeal.Gen.V_main_arg2 m c) (h.1 c),
      end_arg m _ rfl (by decide) (by decide) (Cert.KernelIdeal.Gen.V_main_arg3 m c) (h.1 c),
      end_arg m _ rfl (by decide) (by decide) (Cert.KernelIdeal.Gen.V_main_arg4 m c) (h.1 c),
      end_arg m _ rfl (by decide) (by decide) (Cert.KernelIdeal.Gen.V_main_arg5 m c) (h.1 c),
      end_arg m _ rfl (by decide) (by decide) (Cert.KernelIdeal.Gen.V_main_arg6 m c) (h.1 c)⟩
    · obtain ⟨a, b, rfl⟩ : ∃ (a : Fin 300) (b : Fin 4), i = ValueIdx.ix2 a b := ⟨i 0, i 1, by funext d; fin_cases d <;> rfl⟩
      exact (hr a b).trans (Ref.final_rois m' c _ (hN c) a b).symm
    · obtain ⟨a, rfl⟩ : ∃ a : Fin 300, i = ValueIdx.ix1 a := ⟨i 0, by funext d; fin_cases d; rfl⟩
      exact (hm a).trans (Ref.final_mask m' c _ (hN c) a).symm
  · refine (θ_run _ _ _).mono (fun r h c => ?_) (Cert.ReferenceIdeal.Value.run_fold m' g')
    exact ⟨h c Cert.ReferenceIdeal.main_v250 rfl, h c Cert.ReferenceIdeal.main_v239 rfl,
      (h c _ rfl).trans (Ref.final_keep m' _ (by decide +kernel) (by decide +kernel) (by decide +kernel) c),
      (h c _ rfl).trans (Ref.final_keep m' _ (by decide +kernel) (by decide +kernel) (by decide +kernel) c),
      (h c _ rfl).trans (Ref.final_keep m' _ (by decide +kernel) (by decide +kernel) (by decide +kernel) c),
      (h c _ rfl).trans (Ref.final_keep m' _ (by decide +kernel) (by decide +kernel) (by decide +kernel) c),
      (h c _ rfl).trans (Ref.final_keep m' _ (by decide +kernel) (by decide +kernel) (by decide +kernel) c),
      (h c _ rfl).trans (Ref.final_keep m' _ (by decide +kernel) (by decide +kernel) (by decide +kernel) c),
      (h c _ rfl).trans (Ref.final_keep m' _ (by decide +kernel) (by decide +kernel) (by decide +kernel) c)⟩

end Cert.Proof
-- ==== Proof.Tent.lean ====
module

public import Idealize.ShloMosaic.Lib.Pipeline.ValueKit
public import Idealize.ShloMosaic.Init

/-! The weights of bilinear sampling on a grid of 32 × 32 points. A coordinate `v`, clipped to `[0, 31]`, lies between the
    grid points `k` and `k + 1`; the hat function `max (1 - |v - x|) 0` is `1 - w` at the first, `w` at the second and zero at
    every other grid point, `w` being the distance from `k`. So a sum over all 1024 grid points under the product of two hats
    is the sum over the four corners. -/

@[expose] public section

noncomputable section

namespace Cert.Proof

open Idealize.ShloMosaic

/-- A coordinate clipped to the grid. -/
abbrev clip (v : EReal) : EReal := min ((31 : ℝ) : EReal) (max 0 v)

/-- The hat function around `g`, at grid point `x`. -/
abbrev hat (g : EReal) (x : ℕ) : EReal := max (1 - max (g - ((x : ℝ) : EReal)) (-(g - ((x : ℝ) : EReal)))) 0

/-- The lower corner as the reference computes it, as a word. -/
abbrev low (g : EReal) : BitVec 32 := Ideal.fptosi 32 (min ((30 : ℝ) : EReal) (max 0 (Ideal.liftRound Int.floor g)))

/-- A clipped coordinate is a real number of `[0, 31]`. -/
theorem clip_real (v : EReal) : ∃ a : ℝ, 0 ≤ a ∧ a ≤ 31 ∧ clip v = (a : EReal) := by
  have h0 : (0 : EReal) ≤ clip v := le_min (by exact_mod_cast (by norm_num : (0 : ℝ) ≤ 31)) (le_max_left _ _)
  have h1 : clip v ≤ ((31 : ℝ) : EReal) := min_le_left _ _
  generalize clip v = g at h0 h1
  induction g using EReal.rec with
  | bot => exact absurd h0 (by simp)
  | top => exact absurd h1 (by simp)
  | coe a => exact ⟨a, by exact_mod_cast h0, by exact_mod_cast h1, rfl⟩

/-- The hat function on the reals. -/
theorem hat_coe (a : ℝ) (x : ℕ) : hat (a : EReal) x = ((max (1 - |a - x|) 0 : ℝ) : EReal) := by
  have e : ∀ r s : ℝ, max (r : EReal) (s : EReal) = ((max r s : ℝ) : EReal) := fun r s => (EReal.coe_strictMono.monotone.map_max).symm
  rw [hat, abs_eq_max_neg, ← EReal.coe_sub, ← EReal.coe_neg, e, ← EReal.coe_one, ← EReal.coe_sub, ← EReal.coe_zero, e]

/-- A clipped coordinate's lower corner `k` and its distance `w` from it: the hat function at every grid point, the corner as
    the reference computes it, and the distance. -/
theorem corner (v : EReal) : ∃ (k : ℕ) (w : ℝ), k ≤ 30
    ∧ (∀ x : ℕ, hat (clip v) x = if x = k then ((1 - w : ℝ) : EReal) else if x = k + 1 then (w : EReal) else 0)
    ∧ low (clip v) = BitVec.ofNat 32 k ∧ clip v - ((k : ℝ) : EReal) = (w : EReal) := by
  obtain ⟨a, h0, h1, e⟩ := clip_real v
  rw [e]
  have hf0 : 0 ≤ ⌊a⌋ := Int.floor_nonneg.mpr h0
  have hfl := Int.floor_le a
  have hfu := Int.lt_floor_add_one a
  obtain ⟨k, hk⟩ : ∃ k : ℕ, (k : ℤ) = min 30 ⌊a⌋ := ⟨(min 30 ⌊a⌋).toNat, Int.toNat_of_nonneg (by omega)⟩
  have hk30 : k ≤ 30 := by omega
  have hlo : (k : ℝ) ≤ a := by
    have : (k : ℤ) ≤ ⌊a⌋ := by omega
    exact le_trans (by exact_mod_cast this) hfl
  have hup : a ≤ k + 1 := by
    by_cases h : ⌊a⌋ ≤ 30
    · have : (k : ℤ) = ⌊a⌋ := by omega
      have : (k : ℝ) = (⌊a⌋ : ℝ) := by exact_mod_cast this
      linarith
    · have : k = 30 := by omega
      subst this
      norm_num
      linarith
  refine ⟨k, a - k, hk30, fun x => ?_, ?_, by rw [← EReal.coe_sub]⟩
  · rw [hat_coe]
    split
    · next h =>
      subst h
      rw [abs_of_nonneg (by linarith), max_eq_left (by linarith)]
    split
    · next _ h =>
      subst h
      push_cast
      rw [abs_of_nonpos (by linarith), max_eq_left (by linarith)]
      exact congrArg _ (by ring)
    · next n1 n2 =>
      rw [← EReal.coe_zero]
      refine congrArg _ (max_eq_right ?_)
      rcases lt_or_gt_of_ne n1 with h | h
      · have : (x : ℝ) + 1 ≤ k := by exact_mod_cast h
        rw [abs_of_nonneg (by linarith)]; linarith
      · have : (k : ℝ) + 2 ≤ x := by exact_mod_cast (by omega : k + 2 ≤ x)
        rw [abs_of_nonpos (by linarith)]; linarith
  · have e' : min ((30 : ℝ) : EReal) (max 0 (Ideal.liftRound Int.floor (a : EReal))) = (((k : ℤ) : ℝ) : EReal) := by
      rw [Ideal.liftRound_coe, max_eq_right (by exact_mod_cast hf0), hk, ← (EReal.coe_strictMono.monotone.map_min)]
      push_cast
      rfl
    rw [low, e', Ideal.fptosi, Ideal.toIntClamped_coe, if_pos (by positivity), Int.floor_intCast]
    have : max (-((2 ^ (32 - 1) : ℕ) : ℤ)) (min (((2 ^ (32 - 1) : ℕ) : ℤ) - 1) (k : ℤ)) = (k : ℤ) := by norm_num; omega
    rw [this, BitVec.ofInt_natCast]

/-- The word of a small natural number, read as a number. -/
theorem toInt_word (k : ℕ) (h : k < 1024) : (BitVec.ofNat 32 k).toInt = k := by
  rw [BitVec.toInt_ofNat']
  simp only [Int.bmod_def]
  norm_num
  omega

/-- A sum over the 1024 grid points, row by row. -/
theorem sum_grid (f : Fin 1024 → EReal) :
    ∑ p, f p = ∑ y : Fin 32, ∑ x : Fin 32, f ⟨y.val * 32 + x.val, by omega⟩ := by
  rw [show ∑ p, f p = ∑ q : Fin 32 × Fin 32, f (finProdFinEquiv (m := 32) (n := 32) q) from
    (Equiv.sum_comp (finProdFinEquiv (m := 32) (n := 32)) f).symm, Fintype.sum_prod_type]
  refine Finset.sum_congr rfl fun y _ => Finset.sum_congr rfl fun x _ => congrArg f (Fin.ext ?_)
  simp only [finProdFinEquiv_apply_val]
  omega

/-- A sum over a grid line under a function that vanishes off two neighbours. -/
theorem sum_pair {k : ℕ} (hk : k ≤ 30) (f : Fin 32 → EReal) (h : ∀ x : Fin 32, x.val ≠ k → x.val ≠ k + 1 → f x = 0) :
    ∑ x, f x = f ⟨k, by omega⟩ + f ⟨k + 1, by omega⟩ :=
  Fintype.sum_eq_add _ _ (fun e => by have := congrArg Fin.val e; simp at this)
    fun x hx => h x (fun e => hx.1 (Fin.ext e)) (fun e => hx.2 (Fin.ext e))

/-- Sampling by two hats over the whole grid, under a finite mark that is not negative, is the sum over the four corners. -/
theorem sample {gx gy m : EReal} {k l : ℕ} {w v : ℝ} (hk : k ≤ 30) (hl : l ≤ 30) (h0 : 0 ≤ m) (h1 : m ≠ ⊤)
    (hx : ∀ x : ℕ, hat gx x = if x = k then ((1 - w : ℝ) : EReal) else if x = k + 1 then (w : EReal) else 0)
    (hy : ∀ y : ℕ, hat gy y = if y = l then ((1 - v : ℝ) : EReal) else if y = l + 1 then (v : EReal) else 0)
    (f : Fin 32 → Fin 32 → EReal) :
    ∑ p : Fin 1024, hat gx (p.val % 32) * hat gy (p.val / 32) * m * f ⟨p.val / 32, by omega⟩ ⟨p.val % 32, by omega⟩
      = (f ⟨l, by omega⟩ ⟨k, by omega⟩ * ((1 - v : ℝ) : EReal) * ((1 - w : ℝ) : EReal)
          + f ⟨l, by omega⟩ ⟨k + 1, by omega⟩ * ((1 - v : ℝ) : EReal) * (w : EReal)
          + f ⟨l + 1, by omega⟩ ⟨k, by omega⟩ * (v : EReal) * ((1 - w : ℝ) : EReal)
          + f ⟨l + 1, by omega⟩ ⟨k + 1, by omega⟩ * (v : EReal) * (w : EReal)) * m := by
  rw [sum_grid]
  have e1 : ∀ y x : Fin 32, (⟨(y.val * 32 + x.val) / 32, by omega⟩ : Fin 32) = y := fun y x => Fin.ext (by show _ / 32 = _; omega)
  have e2 : ∀ y x : Fin 32, (⟨(y.val * 32 + x.val) % 32, by omega⟩ : Fin 32) = x := fun y x => Fin.ext (by show _ % 32 = _; omega)
  have e3 : ∀ y x : Fin 32, (y.val * 32 + x.val) / 32 = y.val := fun y x => by omega
  have e4 : ∀ y x : Fin 32, (y.val * 32 + x.val) % 32 = x.val := fun y x => by omega
  simp only [e1, e2, e3, e4]
  have line : ∀ y : Fin 32, ∑ x : Fin 32, hat gx x.val * hat gy y.val * m * f y x
      = ((1 - w : ℝ) : EReal) * hat gy y.val * m * f y ⟨k, by omega⟩ + (w : EReal) * hat gy y.val * m * f y ⟨k + 1, by omega⟩ := fun y => by
    rw [sum_pair hk _ fun x h1 h2 => by rw [hx, if_neg h1, if_neg h2, zero_mul, zero_mul, zero_mul]]
    rw [hx, hx, if_pos rfl, if_neg (Nat.succ_ne_self k), if_pos rfl]
  simp only [line]
  rw [sum_pair hl _ fun y h1 h2 => by rw [hy, if_neg h1, if_neg h2]; simp]
  rw [hy, hy, if_pos rfl, if_neg (Nat.succ_ne_self l), if_pos rfl, ← add_assoc]
  simp only [EReal.right_distrib_of_nonneg_of_ne_top h0 h1]
  simp only [mul_comm, mul_left_comm, mul_assoc]

end Cert.Proof

end
-- ==== Proof.PoolKernel.lean ====
module

public import proofs.«01_k».proof.Proof.Tent
public import proofs.«01_k».proof.Proof.Gen.Kernel2Ideal.Frame
public import Idealize.ShloMosaic.Lib.Pipeline.ValueKit
public import Idealize.ShloMosaic.Lib.StableHlo.ReadAt

/-! The pooling call: what it leaves in its result array, row by row, and what the host lines after it make of that. -/

@[expose] public section

set_option maxRecDepth 16384

noncomputable section

namespace Cert.Proof.Pool

open Cert.Kernel2Ideal Cert.Kernel2Ideal.Gen
open Idealize.ShloMosaic Idealize.ShloMosaic.TcCoe Idealize.ShloMosaic.StableHlo Idealize.SL.Sem

variable (m : (ℓ : Loc nD τ sig) → Buf (Elt Ideal) ℓ)

/-- The hat function as the call computes it, both coordinates being numbers. -/
abbrev tent (g x : EReal) : EReal := max (1 - max (g - x) (-(g - x))) 0

set_option maxHeartbeats 1000000 in
/-- The call's payload at an index. -/
theorem pay_at (x0 : Vec Ideal S1472x1 .f32) (x4 : Vec Ideal S1x1024 .f32) (x1 : Vec Ideal S1472x1 .f32) (x5 : Vec Ideal S1x1024 .f32)
    (x2 : Vec Ideal S1472x1 .f32) (x3 : Vec Ideal S1024x512 .f32) (a : Fin 1472) (b : Fin 512) :
    (k0_pay1 (F := Ideal) x0 x4 x1 x5 x2 x3 : FVec Ideal S1472x512 .f32) (ix2 a b)
      = ∑ p : Fin 1024, tent (x0 (ix2 a 0)) (x4 (ix2 0 p)) * tent (x1 (ix2 a 0)) (x5 (ix2 0 p)) * x2 (ix2 a 0) * x3 (ix2 p b) := by
  unfold k0_pay1
  pointwise
  rfl

/-- The call's result array, from the arrays it reads. -/
def pooled (fx fy mk : FVec Ideal S14720x1 .f32) (ft : FVec Ideal S1024x512 .f32) (xg yg : FVec Ideal S1x1024 .f32) :
    FVec Ideal S14720x512 .f32 := fun j =>
  ∑ p : Fin 1024, tent (fx (ix2 (j 0) 0)) (xg (ix2 0 p)) * tent (fy (ix2 (j 0) 0)) (yg (ix2 0 p)) * mk (ix2 (j 0) 0) * ft (ix2 p (j 1))

theorem idx : ∀ t : Fin cfg0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0] ∧ win0_5.index t = ![0, 0]
    ∧ win0_6.index t = ![(grid0.coords t 0).val, 0] :=
  (by decide +kernel : ∀ t : Fin grid0.N, _)

set_option maxHeartbeats 1000000 in
/-- What one point stores is its block of that array. -/
theorem point (c : Dev nD) (t : Fin cfg0.N) (y) :
    k0_pay1 (iblk m c 0 t) (iblk m c 4 t) (iblk m c 1 t) (iblk m c 5 t) (iblk m c 2 t) (iblk m c 3 t) y
      = pooled (V m c main_v73) (V m c main_v71) (V m c main_v75) (V m c main_v2) (V m c main_v78) (V m c main_v81)
          (((cfg0.win 6).blk t).view.emb y) := by
  obtain ⟨a, b, rfl⟩ : ∃ (a : Fin 1472) (b : Fin 512), y = ix2 a b := ⟨y 0, y 1, by funext d; fin_cases d <;> rfl⟩
  rw [pay_at]
  unfold pooled
  blk_point [iblk, idx t]

/-- The result array after the run. -/
theorem final (c : Dev nD) : (dats m 0 c).arrAt 6 (cfgs 0).N
    = pooled (V m c main_v73) (V m c main_v71) (V m c main_v75) (V m c main_v2) (V m c main_v78) (V m c main_v81) := by
  refine (dats m 0 c).arrAt_eq_of_covers 6 _ (by decide +kernel) fun t _ y => ?_
  blk_simp
  rw [after0_6]
  frame_out
  exact point m c t y

/-- The program's result at an index: the row of the result array that belongs to the box and the sampling point. -/
theorem result (c : Dev nD) (r : Fin 300) (ch : Fin 512) (i j : Fin 7) :
    (Pipeline.afterTail₀ cfgs (dats m) 0 (V0 m) [hostOps1] c main_v85 : FVec Ideal S300x512x7x7 .f32) (ix4 r ch i j)
      = pooled (V m c main_v73) (V m c main_v71) (V m c main_v75) (V m c main_v2) (V m c main_v78) (V m c main_v81)
          (ix2 ⟨r.val * 49 + i.val * 7 + j.val, by omega⟩ ch) := by
  rw [← final]
  unfold Pipeline.afterTail₀
  rw [List.flatten_cons, List.flatten_nil, List.append_nil,
    ← show Pipeline.withArrays spec0 c (V0 m c) (fun w => (dats m 0 c).arrAt w (cfgs 0).N) (Proc.devRef .tc main_v82) = (dats m 0 c).arrAt 6 (cfgs 0).N
      from Pipeline.withArrays_arr spec0 launch0.win.arr_inj c (V0 m c) _ 6]
  generalize Pipeline.withArrays spec0 c (V0 m c) _ = U
  after_reads_at

end Cert.Proof.Pool

end
-- ==== Proof.PoolHost.lean ====
module

public import proofs.«01_k».proof.Proof.PoolKernel

/-! What the host lines before the pooling call hand it, read at an index: a row's two coordinates and its mark, the features
    laid out grid point by grid point, and the grid points' own coordinates. -/

@[expose] public section

set_option maxRecDepth 16384

noncomputable section

namespace Cert.Proof.Pool

open Cert.Kernel2Ideal Cert.Kernel2Ideal.Gen
open Idealize.ShloMosaic Idealize.ShloMosaic.TcCoe Idealize.ShloMosaic.StableHlo Idealize.SL.Sem

/-- The host lines up to the clipped coordinates. -/
abbrev coords (V : Valuation τ sig (Elt Ideal)) : Valuation τ sig (Elt Ideal) :=
  after hostOps0_7 (after hostOps0_6 (after hostOps0_5 (after hostOps0_4 (after hostOps0_3 (after hostOps0_2 (after hostOps0_1 (after hostOps0 V)))))))

/-- The host lines from the clipped coordinates to the call. -/
abbrev rows (U : Valuation τ sig (Elt Ideal)) : Valuation τ sig (Elt Ideal) :=
  after hostOps0_18 (after hostOps0_17 (after hostOps0_16 (after hostOps0_15 (after hostOps0_14 (after hostOps0_13 (after hostOps0_12
    (after hostOps0_11 (after hostOps0_10 (after hostOps0_9 (after hostOps0_8 U))))))))))

variable (U : Valuation τ sig (Elt Ideal))

/-- The coordinates across, one number a box and column. -/
abbrev acrossK : FVec Ideal S300x7 .f32 := U (Proc.devRef .tc main_v60)
/-- The coordinates down, one number a box and row. -/
abbrev downK : FVec Ideal S300x7 .f32 := U (Proc.devRef .tc main_v55)

set_option maxHeartbeats 1000000 in
theorem fx_at (r : Fin 300) (i j : Fin 7) :
    (rows U (Proc.devRef .tc main_v73) : FVec Ideal S14720x1 .f32) (ix2 ⟨r.val * 49 + i.val * 7 + j.val, by omega⟩ 0) = acrossK U (ix2 r j) := by
  after_reads_at
  rw [dif_pos (by omega)]
  exact congrArg (acrossK U) (congrArg₂ ix2 (Fin.ext (by show _ / 49 = _; omega)) (Fin.ext (by show _ % 7 = _; omega)))

set_option maxHeartbeats 1000000 in
theorem fy_at (r : Fin 300) (i j : Fin 7) :
    (rows U (Proc.devRef .tc main_v71) : FVec Ideal S14720x1 .f32) (ix2 ⟨r.val * 49 + i.val * 7 + j.val, by omega⟩ 0) = downK U (ix2 r i) := by
  after_reads_at
  rw [dif_pos (by omega)]
  exact congrArg (downK U) (congrArg₂ ix2 (Fin.ext (by show _ / 49 = _; omega)) (Fin.ext (by show _ / 7 % 7 = _; omega)))

set_option maxHeartbeats 1000000 in
theorem mk_at (r : Fin 300) (i j : Fin 7) :
    (rows U (Proc.devRef .tc main_v75) : FVec Ideal S14720x1 .f32) (ix2 ⟨r.val * 49 + i.val * 7 + j.val, by omega⟩ 0)
      = (U (Proc.devRef .tc main_arg2) : FVec Ideal S300 .f32) (ix1 r) := by
  after_reads_at
  rw [dif_pos (by omega)]
  exact congrArg (U (Proc.devRef .tc main_arg2) : FVec Ideal S300 .f32) (congrArg ix1 (Fin.ext (by show _ / 49 = _; omega)))

set_option maxHeartbeats 1000000 in
theorem ft_at (p : Fin 1024) (ch : Fin 512) :
    (rows U (Proc.devRef .tc main_v2) : FVec Ideal S1024x512 .f32) (ix2 p ch) = (U (Proc.devRef .tc main_v2) : FVec Ideal S1024x512 .f32) (ix2 p ch) := by
  after_reads_at

/-- A grid point's number as the host makes it, and the 32 it is divided by. -/
theorem num (p : Fin 1024) : (FloatOps.sitofp .f32 (BitVec.ofNat 32 p.val) : Ideal .f32) = ((p.val : ℝ) : EReal) := by
  show (((BitVec.ofNat 32 p.val).toInt : ℝ) : EReal) = _
  rw [toInt_word _ p.isLt]
  norm_num
theorem num32 : (FloatOps.sitofp .f32 (32#32 : BitVec 32) : Ideal .f32) = ((32 : ℝ) : EReal) := by
  show (((32#32 : BitVec 32).toInt : ℝ) : EReal) = _
  rw [show (32#32 : BitVec 32).toInt = 32 by decide]
  norm_num

/-- The remainder of a grid point's number by 32. -/
theorem rem32 (n : ℕ) : Ideal.remf ((n : ℝ) : EReal) ((32 : ℝ) : EReal) = (((n % 32 : ℕ) : ℝ) : EReal) := by
  rw [Ideal.remf_coe, if_neg (by norm_num), Ideal.truncInt, if_pos (by positivity)]
  have h : ((n % 32 : ℕ) : ℝ) + 32 * ((n / 32 : ℕ) : ℝ) = n := by exact_mod_cast Nat.mod_add_div n 32
  have h0 : (0 : ℝ) ≤ ((n % 32 : ℕ) : ℝ) := Nat.cast_nonneg _
  have h1 : ((n % 32 : ℕ) : ℝ) < 32 := by exact_mod_cast Nat.mod_lt n (by norm_num)
  have hd : ⌊(n : ℝ) / 32⌋ = ((n / 32 : ℕ) : ℤ) := by
    rw [Int.floor_eq_iff, Int.cast_natCast]
    constructor <;> linarith
  rw [hd, Int.cast_natCast]
  exact congrArg _ (by linarith)

set_option maxHeartbeats 1000000 in
theorem xg_at (p : Fin 1024) :
    (rows U (Proc.devRef .tc main_v78) : FVec Ideal S1x1024 .f32) (ix2 0 p) = (((p.val % 32 : ℕ) : ℝ) : EReal) := by
  after_reads_at
  rw [num, num32, rem32]
  have h0 : ¬ (((p.val % 32 : ℕ) : ℝ) : EReal) < 0 := not_lt.mpr (by exact_mod_cast Nat.zero_le _)
  have h1 : ¬ ((32 : ℝ) : EReal) < 0 := not_lt.mpr (by exact_mod_cast (by norm_num : (0 : ℝ) ≤ 32))
  rw [decide_eq_false h0, decide_eq_false h1]
  have : ∀ b : BitVec 1, IntOp.andi (IntOp.cmpi .ne (BitVec.ofBool false) (BitVec.ofBool false)) b = 0#1 := by decide
  rw [this]
  rfl

set_option maxHeartbeats 1000000 in
theorem yg_at (p : Fin 1024) :
    (rows U (Proc.devRef .tc main_v81) : FVec Ideal S1x1024 .f32) (ix2 0 p) = (((p.val / 32 : ℕ) : ℝ) : EReal) := by
  after_reads_at
  rw [num, num32, rem32]
  have h32 : ((32 : ℝ) : EReal) ≠ 0 := by exact_mod_cast (by norm_num : (32 : ℝ) ≠ 0)
  have hp : (0 : EReal) < ((32 : ℝ) : EReal) := by exact_mod_cast (by norm_num : (0 : ℝ) < 32)
  have hq : Ideal.div (((p.val : ℝ) : EReal) - (((p.val % 32 : ℕ) : ℝ) : EReal)) ((32 : ℝ) : EReal) = (((p.val / 32 : ℕ) : ℝ) : EReal) := by
    rw [Ideal.div_coe (by norm_num), ← EReal.coe_sub, ← EReal.coe_mul]
    refine congrArg _ ?_
    have h : ((p.val % 32 : ℕ) : ℝ) + 32 * ((p.val / 32 : ℕ) : ℝ) = p.val := by exact_mod_cast Nat.mod_add_div p.val 32
    linarith
  rw [if_neg h32, hq]
  have hc : IntOp.andi (BitVec.ofBool (decide ((((p.val % 32 : ℕ) : ℝ) : EReal) ≠ 0)))
      (BitVec.ofBool (decide (Ideal.sign ((32 : ℝ) : EReal) ≠ Ideal.sign (((p.val % 32 : ℕ) : ℝ) : EReal)))) = 0#1 := by
    by_cases h : p.val % 32 = 0
    · rw [h]
      simp [IntOp.andi]
    · have hr : (0 : EReal) < (((p.val % 32 : ℕ) : ℝ) : EReal) := by exact_mod_cast Nat.pos_of_ne_zero h
      rw [Ideal.sign_of_pos hp, Ideal.sign_of_pos hr]
      simp [IntOp.andi]
  rw [hc]
  show Ideal.liftRound Ideal.roundHalfAway (((p.val / 32 : ℕ) : ℝ) : EReal) = _
  rw [Ideal.liftRound_coe, Ideal.roundHalfAway, if_pos (by positivity)]
  refine congrArg _ ?_
  have : ⌊((p.val / 32 : ℕ) : ℝ) + 1 / 2⌋ = ((p.val / 32 : ℕ) : ℤ) := by
    rw [Int.floor_eq_iff, Int.cast_natCast]
    constructor <;> linarith
  rw [this]
  norm_cast

set_option maxHeartbeats 1000000 in
theorem features_at (V : Valuation τ sig (Elt Ideal)) (p : Fin 1024) (ch : Fin 512) :
    (coords V (Proc.devRef .tc main_v2) : FVec Ideal S1024x512 .f32) (ix2 p ch)
      = (V (Proc.devRef .tc main_arg0) : FVec Ideal S1x512x32x32 .f32) (ix4 0 ch ⟨p.val / 32, by omega⟩ ⟨p.val % 32, by omega⟩) := by
  after_reads_at

theorem marks_at (V : Valuation τ sig (Elt Ideal)) (r : Fin 300) :
    (coords V (Proc.devRef .tc main_arg2) : FVec Ideal S300 .f32) (ix1 r) = (V (Proc.devRef .tc main_arg2) : FVec Ideal S300 .f32) (ix1 r) := by
  after_reads_at

end Cert.Proof.Pool

end
-- ==== Proof.PoolRef.lean ====
module

public import proofs.«01_k».proof.Proof.Tent
public import proofs.«01_k».proof.Proof.Gen.Reference2Ideal.Run
public import Idealize.ShloMosaic.Lib.Pipeline.ValueKit
public import Idealize.ShloMosaic.Lib.StableHlo.ReadAt

/-! The reference's pooling, read at an index: the four corners of a sampling point, each under its two weights, and the mark. -/

@[expose] public section

set_option maxRecDepth 16384

noncomputable section

namespace Cert.Proof.PoolRef

open Cert.Reference2Ideal Cert.Reference2Ideal.Gen Cert.Reference2Ideal.Value
open Idealize.ShloMosaic Idealize.ShloMosaic.TcCoe Idealize.ShloMosaic.StableHlo Idealize.SL.Sem

/-- The table lookup at an index: the entry the two words name. -/
theorem lookup_at (x : FVec Ideal S512x32x32 .f32) (e : IVec S300x7x7x2 32) (ch : Fin 512) (r : Fin 300) (i j : Fin 7)
    (y z : Fin 32) (hy : e (ix4 r i j 0) = BitVec.ofNat 32 y.val) (hz : e (ix4 r i j 1) = BitVec.ofNat 32 z.val) :
    Host.gather gather_S512x32x32_S300x7x7x2_S512x300x7x7_0_12_n_n_12_3_51211 x e (ix4 ch r i j) = x (ix3 ch y z) := by
  unfold Host.gather
  refine congrArg x (funext fun a => Fin.ext ?_)
  have e0 : gather_S512x32x32_S300x7x7x2_S512x300x7x7_0_12_n_n_12_3_51211.siIdx (ix4 ch r i j) ⟨0, by decide⟩ = ix4 r i j 0 := by
    funext b; fin_cases b <;> rfl
  have e1 : gather_S512x32x32_S300x7x7x2_S512x300x7x7_0_12_n_n_12_3_51211.siIdx (ix4 ch r i j) ⟨1, by decide⟩ = ix4 r i j 1 := by
    funext b; fin_cases b <;> rfl
  fin_cases a
  · exact Nat.zero_add _
  · show min (e (gather_S512x32x32_S300x7x7x2_S512x300x7x7_0_12_n_n_12_3_51211.siIdx (ix4 ch r i j) ⟨0, by decide⟩)).toInt.toNat 31 = y.val
    rw [e0, hy, toInt_word _ (by omega)]
    omega
  · show min (e (gather_S512x32x32_S300x7x7x2_S512x300x7x7_0_12_n_n_12_3_51211.siIdx (ix4 ch r i j) ⟨1, by decide⟩)).toInt.toNat 31 = z.val
    rw [e1, hz, toInt_word _ (by omega)]
    omega

variable (V : Valuation τ sig (Elt Ideal))

/-- The coordinates across, one number a box and column. -/
def across : FVec Ideal S300x7 .f32 := res_main_v58 V
/-- The coordinates down, one number a box and row. -/
def down : FVec Ideal S300x7 .f32 := res_main_v53 V

/-- The upper bound of the coordinates as a number. -/
theorem thirtyone : Ideal.ofBits .f32 0x41F80000#32 = ((31 : ℝ) : EReal) := by
  simp [Ideal.ofBits, Ideal.ieee, -EReal.coe_mul]; norm_num

/-- A clipped array at an index. -/
theorem clipped (x : FVec Ideal S300x7 .f32) (n : S300x7.Idx) :
    minimumf (broadcastInDim S300x7 ![] bcast_S_S300x7 (id (constant (F := Ideal) S_ .f32 0x41F80000#32)))
      (maximumf (broadcastInDim S300x7 ![] bcast_S_S300x7 (id (constant (F := Ideal) S_ .f32 0x00000000#32))) x) n = clip (x n) := by
  show min (Ideal.ofBits .f32 0x41F80000#32) (max (Ideal.ofBits .f32 0x00000000#32) (x n)) = _
  rw [thirtyone, Ideal.ofBits_zero_f32]

/-- The coordinates across are clipped to the grid. -/
theorem across_clip (r : Fin 300) (j : Fin 7) : ∃ v : EReal, across V (ix2 r j) = clip v := by
  unfold across res_main_v58
  clean_types
  exact ⟨_, clipped _ _⟩

/-- The coordinates down are clipped to the grid. -/
theorem down_clip (r : Fin 300) (i : Fin 7) : ∃ v : EReal, down V (ix2 r i) = clip v := by
  unfold down res_main_v53
  clean_types
  exact ⟨_, clipped _ _⟩

/-- The bounds of the lower corner as numbers. -/
theorem bound30 : (FloatOps.sitofp .f32 (30#32 : BitVec 32) : Ideal .f32) = ((30 : ℝ) : EReal) := by
  show (((30#32 : BitVec 32).toInt : ℝ) : EReal) = _
  rw [show (30#32 : BitVec 32).toInt = 30 by decide]
  norm_num
theorem bound0 : (FloatOps.sitofp .f32 (0#32 : BitVec 32) : Ideal .f32) = (0 : EReal) := by
  show (((0#32 : BitVec 32).toInt : ℝ) : EReal) = _
  norm_num

/-- The lower corner across. -/
theorem low_across (r : Fin 300) (j : Fin 7) : (res_main_v64 V : IVec S300x7 32) (ix2 r j) = low (across V (ix2 r j)) := by
  unfold across res_main_v64
  clean_types
  pointwise
  rw [bound30, bound0]
  rfl

/-- The lower corner down. -/
theorem low_down (r : Fin 300) (i : Fin 7) : (res_main_v61 V : IVec S300x7 32) (ix2 r i) = low (down V (ix2 r i)) := by
  unfold down res_main_v61
  clean_types
  pointwise
  rw [bound30, bound0]
  rfl

/-- The two words of a corner. -/
def words (a : IVec S300x7x1 32) (b : IVec S300x1x7 32) : IVec S300x7x7x2 32 :=
  concatenate S300x7x7x2 3 [⟨S300x7x7x1, (broadcastInDim S300x7x7x1 ![0, 1, 2] bcast_S300x7x7_S300x7x7x1_0_1_2 (broadcastInDim S300x7x7 ![0, 1, 2] bcast_S300x7x1_S300x7x7_0_1_2 (select (cmpi .slt a (broadcastInDim S300x7x1 ![] bcast_S_S300x7x1 (constantI S_ 32 0#32))) (addi a (broadcastInDim S300x7x1 ![] bcast_S_S300x7x1 (constantI S_ 32 32#32))) a)))⟩, ⟨S300x7x7x1, (broadcastInDim S300x7x7x1 ![0, 1, 2] bcast_S300x7x7_S300x7x7x1_0_1_2 (broadcastInDim S300x7x7 ![0, 1, 2] bcast_S300x1x7_S300x7x7_0_1_2 (select (cmpi .slt b (broadcastInDim S300x1x7 ![] bcast_S_S300x1x7 (constantI S_ 32 0#32))) (addi b (broadcastInDim S300x1x7 ![] bcast_S_S300x1x7 (constantI S_ 32 32#32))) b)))⟩] concatenates_S300x7x7x1_S300x7x7x1_S300x7x7x2_d3

/-- A word that names a grid point is not negative: it stays as it is. -/
theorem keep_word (k : ℕ) (h : k < 32) :
    Scalar.select (IntOp.cmpi .slt (BitVec.ofNat 32 k) 0#32) (IntOp.addi (BitVec.ofNat 32 k) 32#32) (BitVec.ofNat 32 k) = BitVec.ofNat 32 k := by
  have : IntOp.cmpi .slt (BitVec.ofNat 32 k) 0#32 = 0#1 := by
    show BitVec.ofBool (decide ((BitVec.ofNat 32 k).toInt < (0#32 : BitVec 32).toInt)) = 0#1
    rw [toInt_word k (by omega), decide_eq_false (by simp)]
    rfl
  rw [this]
  rfl

/-- The words of a corner at an index. -/
theorem words_at (a : IVec S300x7x1 32) (b : IVec S300x1x7 32) (r : Fin 300) (i j : Fin 7) {y z : ℕ} (hy : y < 32) (hz : z < 32)
    (ha : a (ix3 r i 0) = BitVec.ofNat 32 y) (hb : b (ix3 r 0 j) = BitVec.ofNat 32 z) :
    words a b (ix4 r i j 0) = BitVec.ofNat 32 y ∧ words a b (ix4 r i j 1) = BitVec.ofNat 32 z := by
  unfold words
  constructor
  · pointwise
    rw [ha]
    exact keep_word y hy
  · pointwise
    rw [hb]
    exact keep_word z hz

/-- What the reference ends with, from its arguments. -/
def sampled : FVec Ideal S300x512x7x7 .f32 :=
  mulf (transpose S300x512x7x7 [1, 0, 2, 3] (addf (res_main_v160 V) (mulf (mulf (Host.gather gather_S512x32x32_S300x7x7x2_S512x300x7x7_0_12_n_n_12_3_51211 (res_main_v0 V) (words (res_main_v162 V) (res_main_v164 V))) (broadcastInDim S512x300x7x7 ![0, 1, 2, 3] bcast_S1x300x7x1_S512x300x7x7_0_1_2_3 (broadcastInDim S1x300x7x1 ![1, 2, 3] bcast_S300x7x1_S1x300x7x1_1_2_3 (res_main_v71 V)))) (broadcastInDim S512x300x7x7 ![0, 1, 2, 3] bcast_S1x300x1x7_S512x300x7x7_0_1_2_3 (broadcastInDim S1x300x1x7 ![1, 2, 3] bcast_S300x1x7_S1x300x1x7_1_2_3 (res_main_v72 V))))) transposes_S512x300x7x7_S300x512x7x7_1_0_2_3) (broadcastInDim S300x512x7x7 ![0, 1, 2, 3] bcast_S300x1x1x1_S300x512x7x7_0_1_2_3 (broadcastInDim S300x1x1x1 ![0] bcast_S300_S300x1x1x1_0 (V (Proc.devRef .tc main_arg2))))

/-- The features the lookups read, the array without its leading axis. -/
theorem table_at (ch : Fin 512) (y x : Fin 32) : (res_main_v0 V : FVec Ideal S512x32x32 .f32) (ix3 ch y x)
    = (V (Proc.devRef .tc main_arg0) : FVec Ideal S1x512x32x32 .f32) (ix4 0 ch y x) := by
  unfold res_main_v0
  clean_types
  pointwise

/-- A corner's first word is the lower corner down, or the one after it. -/
theorem word_down (r : Fin 300) (i : Fin 7) {l : ℕ} (h : low (down V (ix2 r i)) = BitVec.ofNat 32 l) :
    (res_main_v74 V : IVec S300x7x1 32) (ix3 r i 0) = BitVec.ofNat 32 l ∧ (res_main_v104 V : IVec S300x7x1 32) (ix3 r i 0) = BitVec.ofNat 32 l
    ∧ (res_main_v133 V : IVec S300x7x1 32) (ix3 r i 0) = BitVec.ofNat 32 (l + 1) ∧ (res_main_v162 V : IVec S300x7x1 32) (ix3 r i 0) = BitVec.ofNat 32 (l + 1) := by
  have e : (res_main_v69 V : IVec S300x7x1 32) (ix3 r i 0) = BitVec.ofNat 32 l := by
    rw [← h, ← low_down]
    unfold res_main_v69
    clean_types
    pointwise
  unfold res_main_v74 res_main_v104 res_main_v133 res_main_v162
  clean_types
  refine ⟨?_, ?_, ?_, ?_⟩ <;> · pointwise; rw [e]; simp [IntOp.addi, BitVec.ofNat_add]

/-- A corner's second word is the lower corner across, or the one after it. -/
theorem word_across (r : Fin 300) (j : Fin 7) {k : ℕ} (h : low (across V (ix2 r j)) = BitVec.ofNat 32 k) :
    (res_main_v76 V : IVec S300x1x7 32) (ix3 r 0 j) = BitVec.ofNat 32 k ∧ (res_main_v106 V : IVec S300x1x7 32) (ix3 r 0 j) = BitVec.ofNat 32 (k + 1)
    ∧ (res_main_v135 V : IVec S300x1x7 32) (ix3 r 0 j) = BitVec.ofNat 32 k ∧ (res_main_v164 V : IVec S300x1x7 32) (ix3 r 0 j) = BitVec.ofNat 32 (k + 1) := by
  have e : (res_main_v70 V : IVec S300x1x7 32) (ix3 r 0 j) = BitVec.ofNat 32 k := by
    rw [← h, ← low_across]
    unfold res_main_v70
    clean_types
    pointwise
  unfold res_main_v76 res_main_v106 res_main_v135 res_main_v164
  clean_types
  refine ⟨?_, ?_, ?_, ?_⟩ <;> · pointwise; rw [e]; simp [IntOp.addi, BitVec.ofNat_add]

/-- The distance down from the lower corner. -/
theorem dist_down (r : Fin 300) (i : Fin 7) {l : ℕ} {v : ℝ} (hl : l ≤ 30) (h : low (down V (ix2 r i)) = BitVec.ofNat 32 l)
    (hv : down V (ix2 r i) - ((l : ℝ) : EReal) = (v : EReal)) : (res_main_v71 V : FVec Ideal S300x7x1 .f32) (ix3 r i 0) = (v : EReal) := by
  unfold res_main_v71
  clean_types
  pointwise
  rw [low_down, h, ← hv]
  show _ - (((BitVec.ofNat 32 l).toInt : ℝ) : EReal) = _
  rw [toInt_word l (by omega)]
  rfl

/-- The distance across from the lower corner. -/
theorem dist_across (r : Fin 300) (j : Fin 7) {k : ℕ} {w : ℝ} (hk : k ≤ 30) (h : low (across V (ix2 r j)) = BitVec.ofNat 32 k)
    (hw : across V (ix2 r j) - ((k : ℝ) : EReal) = (w : EReal)) : (res_main_v72 V : FVec Ideal S300x1x7 .f32) (ix3 r 0 j) = (w : EReal) := by
  unfold res_main_v72
  clean_types
  pointwise
  rw [low_across, h, ← hw]
  show _ - (((BitVec.ofNat 32 k).toInt : ℝ) : EReal) = _
  rw [toInt_word k (by omega)]
  rfl

/-- The reference's result at an index: the four corners under their weights, and the mark. -/
theorem sampled_at (r : Fin 300) (ch : Fin 512) (i j : Fin 7) {k l : ℕ} {w v : ℝ} (hk : k ≤ 30) (hl : l ≤ 30)
    (hx : low (across V (ix2 r j)) = BitVec.ofNat 32 k) (hy : low (down V (ix2 r i)) = BitVec.ofNat 32 l)
    (hw : across V (ix2 r j) - ((k : ℝ) : EReal) = (w : EReal)) (hv : down V (ix2 r i) - ((l : ℝ) : EReal) = (v : EReal))
    (f : Fin 32 → Fin 32 → EReal)
    (hf : ∀ y x, (V (Proc.devRef .tc main_arg0) : FVec Ideal S1x512x32x32 .f32) (ix4 0 ch y x) = f y x) :
    sampled V (ix4 r ch i j)
      = (f ⟨l, by omega⟩ ⟨k, by omega⟩ * ((1 - v : ℝ) : EReal) * ((1 - w : ℝ) : EReal)
          + f ⟨l, by omega⟩ ⟨k + 1, by omega⟩ * ((1 - v : ℝ) : EReal) * (w : EReal)
          + f ⟨l + 1, by omega⟩ ⟨k, by omega⟩ * (v : EReal) * ((1 - w : ℝ) : EReal)
          + f ⟨l + 1, by omega⟩ ⟨k + 1, by omega⟩ * (v : EReal) * (w : EReal))
        * (V (Proc.devRef .tc main_arg2) : FVec Ideal S300 .f32) (ix1 r) := by
  obtain ⟨a0, a1, a2, a3⟩ := word_down V r i hy
  obtain ⟨b0, b1, b2, b3⟩ := word_across V r j hx
  have dv := dist_down V r i hl hy hv
  have dw := dist_across V r j hk hx hw
  have g : ∀ (a : IVec S300x7x1 32) (b : IVec S300x1x7 32) (y z : ℕ) (hy : y < 32) (hz : z < 32),
      a (ix3 r i 0) = BitVec.ofNat 32 y → b (ix3 r 0 j) = BitVec.ofNat 32 z →
      Host.gather gather_S512x32x32_S300x7x7x2_S512x300x7x7_0_12_n_n_12_3_51211 (res_main_v0 V) (words a b) (ix4 ch r i j) = f ⟨y, hy⟩ ⟨z, hz⟩ :=
    fun a b y z hy hz ha hb => by
      obtain ⟨e0, e1⟩ := words_at a b r i j hy hz ha hb
      rw [lookup_at _ _ ch r i j ⟨y, hy⟩ ⟨z, hz⟩ e0 e1, table_at, hf]
  have g00 := g _ _ l k (by omega) (by omega) a0 b0
  have g01 := g _ _ l (k + 1) (by omega) (by omega) a1 b1
  have g10 := g _ _ (l + 1) k (by omega) (by omega) a2 b2
  have g11 := g _ _ (l + 1) (k + 1) (by omega) (by omega) a3 b3
  unfold words at g00 g01 g10 g11
  unfold sampled res_main_v160 words
  clean_types
  generalize Host.gather gather_S512x32x32_S300x7x7x2_S512x300x7x7_0_12_n_n_12_3_51211 (res_main_v0 V) _ = G00 at g00 ⊢
  generalize Host.gather gather_S512x32x32_S300x7x7x2_S512x300x7x7_0_12_n_n_12_3_51211 (res_main_v0 V) _ = G01 at g01 ⊢
  generalize Host.gather gather_S512x32x32_S300x7x7x2_S512x300x7x7_0_12_n_n_12_3_51211 (res_main_v0 V) _ = G10 at g10 ⊢
  generalize Host.gather gather_S512x32x32_S300x7x7x2_S512x300x7x7_0_12_n_n_12_3_51211 (res_main_v0 V) _ = G11 at g11 ⊢
  pointwise
  rw [g00, g01, g10, g11, dv, dw, EReal.coe_sub 1 v, EReal.coe_sub 1 w, EReal.coe_one]

end Cert.Proof.PoolRef

end
-- ==== Proof.PoolEqual.lean ====
module

public import proofs.«01_k».proof.Defs
public import proofs.«01_k».proof.Proof.PoolHost
public import proofs.«01_k».proof.Proof.PoolRef
public import proofs.«01_k».proof.Proof.Gen.Pre_flags

/-! The pooling program and its reference end with equal results, every mark being finite and not negative. -/

@[expose] public section

set_option maxRecDepth 16384

noncomputable section

namespace Cert.Proof.Pool

open Idealize.ShloMosaic Idealize.ShloMosaic.TcCoe Idealize.ShloMosaic.StableHlo Idealize.SL.Sem

section
variable (V : Valuation Cert.Kernel2Ideal.τ Cert.Kernel2Ideal.sig (Elt Ideal)) (W : Valuation Cert.Reference2Ideal.τ Cert.Reference2Ideal.sig (Elt Ideal))

/-- The two programs' arguments hold the same numbers. -/
structure Same : Prop where
  features : (V (Proc.devRef .tc Cert.Kernel2Ideal.main_arg0) : FVec Ideal Cert.Kernel2Ideal.S1x512x32x32 .f32) = W (Proc.devRef .tc Cert.Reference2Ideal.main_arg0)
  rois : (V (Proc.devRef .tc Cert.Kernel2Ideal.main_arg1) : FVec Ideal Cert.Kernel2Ideal.S300x4 .f32) = W (Proc.devRef .tc Cert.Reference2Ideal.main_arg1)
  mask : (V (Proc.devRef .tc Cert.Kernel2Ideal.main_arg2) : FVec Ideal Cert.Kernel2Ideal.S300 .f32) = W (Proc.devRef .tc Cert.Reference2Ideal.main_arg2)

variable {V W}

set_option maxHeartbeats 2000000 in
/-- Both programs clip the same coordinates across. -/
theorem across_eq (h : Same V W) (r : Fin 300) (j : Fin 7) : acrossK (coords V) (ix2 r j) = PoolRef.across W (ix2 r j) := by
  have e : ∀ q, (V (Proc.devRef .tc Cert.Kernel2Ideal.main_arg1) : FVec Ideal Cert.Kernel2Ideal.S300x4 .f32) q
      = (W (Proc.devRef .tc Cert.Reference2Ideal.main_arg1) : FVec Ideal Cert.Reference2Ideal.S300x4 .f32) q := fun q => congrFun h.rois q
  unfold acrossK PoolRef.across Cert.Reference2Ideal.Value.res_main_v58 Cert.Reference2Ideal.Value.res_main_v7
    Cert.Reference2Ideal.Value.res_main_call1_v0 Cert.Reference2Ideal.Value.res_main_call1_v1 Cert.Reference2Ideal.Value.res_main_call1_v6
  clean_types
  after_reads_at
  pointwise
  simp only [e]
  split <;> after_reads_at <;> rfl

set_option maxHeartbeats 2000000 in
/-- Both programs clip the same coordinates down. -/
theorem down_eq (h : Same V W) (r : Fin 300) (i : Fin 7) : downK (coords V) (ix2 r i) = PoolRef.down W (ix2 r i) := by
  have e : ∀ q, (V (Proc.devRef .tc Cert.Kernel2Ideal.main_arg1) : FVec Ideal Cert.Kernel2Ideal.S300x4 .f32) q
      = (W (Proc.devRef .tc Cert.Reference2Ideal.main_arg1) : FVec Ideal Cert.Reference2Ideal.S300x4 .f32) q := fun q => congrFun h.rois q
  unfold downK PoolRef.down Cert.Reference2Ideal.Value.res_main_v53 Cert.Reference2Ideal.Value.res_main_v14
    Cert.Reference2Ideal.Value.res_main_call0_v0 Cert.Reference2Ideal.Value.res_main_call0_v1 Cert.Reference2Ideal.Value.res_main_call0_v6
  clean_types
  after_reads_at
  pointwise
  simp only [e]
  split <;> after_reads_at <;> rfl

set_option maxHeartbeats 2000000 in
/-- Under a finite mark that is not negative the two results agree, read at an index. -/
theorem agree (h : Same V W) (r : Fin 300) (ch : Fin 512) (i j : Fin 7)
    {μ : EReal} (hμ : W (Proc.devRef .tc Cert.Reference2Ideal.main_arg2) (ix1 r) = μ) (h0 : 0 ≤ μ) (h1 : μ ≠ ⊤) :
    pooled (rows (coords V) (Proc.devRef .tc Cert.Kernel2Ideal.main_v73)) (rows (coords V) (Proc.devRef .tc Cert.Kernel2Ideal.main_v71))
      (rows (coords V) (Proc.devRef .tc Cert.Kernel2Ideal.main_v75)) (rows (coords V) (Proc.devRef .tc Cert.Kernel2Ideal.main_v2))
      (rows (coords V) (Proc.devRef .tc Cert.Kernel2Ideal.main_v78)) (rows (coords V) (Proc.devRef .tc Cert.Kernel2Ideal.main_v81))
      (ix2 ⟨r.val * 49 + i.val * 7 + j.val, by omega⟩ ch) = PoolRef.sampled W (ix4 r ch i j) := by
  obtain ⟨a, ha⟩ := PoolRef.across_clip W r j
  obtain ⟨b, hb⟩ := PoolRef.down_clip W r i
  obtain ⟨k, w, hk, hx, hkl, hw⟩ := corner a
  obtain ⟨l, v, hl, hy, hll, hv⟩ := corner b
  rw [← ha] at hx hkl hw
  rw [← hb] at hy hll hv
  obtain ⟨f, hf⟩ : ∃ f : Fin 32 → Fin 32 → EReal, ∀ y x,
      (W (Proc.devRef .tc Cert.Reference2Ideal.main_arg0) : FVec Ideal Cert.Kernel2Ideal.S1x512x32x32 .f32) (ix4 0 ch y x) = f y x := ⟨_, fun _ _ => rfl⟩
  have hs := PoolRef.sampled_at W r ch i j hk hl hkl hll hw hv f hf
  rw [hμ] at hs
  refine Eq.trans ?_ ((sample hk hl h0 h1 hx hy f).trans hs.symm)
  refine Finset.sum_congr rfl fun p _ => ?_
  show tent (rows (coords V) (Proc.devRef .tc Cert.Kernel2Ideal.main_v73) (ix2 ⟨r.val * 49 + i.val * 7 + j.val, _⟩ 0)) _
    * tent (rows (coords V) (Proc.devRef .tc Cert.Kernel2Ideal.main_v71) (ix2 ⟨r.val * 49 + i.val * 7 + j.val, _⟩ 0)) _
    * rows (coords V) (Proc.devRef .tc Cert.Kernel2Ideal.main_v75) (ix2 ⟨r.val * 49 + i.val * 7 + j.val, _⟩ 0)
    * rows (coords V) (Proc.devRef .tc Cert.Kernel2Ideal.main_v2) (ix2 p ch) = _
  rw [fx_at, fy_at, mk_at, ft_at, xg_at, yg_at, features_at, marks_at, across_eq h, down_eq h, h.features, h.mask, hμ, hf]

end

/-- What the precondition says of a mark. -/
theorem mark (a : FVec Ideal Cert.Pre_flags.S1x512x32x32 .f32) (b : FVec Ideal Cert.Pre_flags.S300x4 .f32) (mk : FVec Ideal Cert.Pre_flags.S300 .f32)
    (h : letI := Cert.Pre_flags.Gen.facts; Cert.Pre_flags.fn (F := Ideal) a b mk = fun _ => 1#1) (r : Fin 300) : (0 : EReal) ≤ mk (ix1 r) ∧ mk (ix1 r) ≠ (⊤ : EReal) := by
  have e := congrFun h (ix1 r)
  unfold Cert.Pre_flags.fn at e
  pointwise at e
  by_cases h0 : (0 : EReal) ≤ mk (ix1 r)
  · by_cases h1 : (mk (ix1 r) : EReal) < Ideal.ofBits FTy.f32 2139095040#32
    · exact ⟨h0, ne_top_of_lt h1⟩
    · rw [decide_eq_true h0, decide_eq_false h1] at e
      exact absurd e (by decide)
  · rw [decide_eq_false h0] at e
    exact absurd e (by cases decide ((mk (ix1 r) : EReal) < Ideal.ofBits FTy.f32 2139095040#32) <;> decide)

/-- The call's inputs are those that the host lines make of the arguments. -/
theorem V_eq (m : (ℓ : Loc Cert.Kernel2Ideal.nD Cert.Kernel2Ideal.τ Cert.Kernel2Ideal.sig) → Buf (Elt Ideal) ℓ) (c : Dev Cert.Kernel2Ideal.nD)
    (b : Ref Cert.Kernel2Ideal.sig .tc) : Cert.Kernel2Ideal.Gen.V m c b = rows (coords fun b => m (c, b)) (Proc.devRef .tc b) := by
  simp only [Cert.Kernel2Ideal.Gen.V, Cert.Kernel2Ideal.Gen.V0, List.flatten_cons, List.flatten_nil, List.append_nil, after_append]

/-- The pooling program's idealization and its reference, from equal arguments with finite marks that are not negative, end with equal results. -/
theorem algebraic : Cert.algebraic_Kernel2Ideal_Reference2Ideal_pre_flags (hKernel2Ideal := Cert.Kernel2Ideal.Gen.facts)
    (hReference2Ideal := Cert.Reference2Ideal.Gen.facts) (hPre_flags := Cert.Pre_flags.Gen.facts) := by
  intro m g m' g' hpre hargs
  have hS : ∀ c : Dev Cert.Kernel2Ideal.nD, Same (fun b => m (c, b)) (launchContents m' c) := fun c => by
    obtain ⟨h0, h1, h2⟩ := hargs c
    exact ⟨h0.symm, h1.symm, h2.symm⟩
  refine ⟨fun c => PoolRef.sampled (launchContents m' c), ?_, ?_⟩
  · refine (θ_run _ _ _).mono (fun r h c => ?_) (Cert.Kernel2Ideal.Gen.run_main m g)
    refine ⟨((h c).2 Cert.Kernel2Ideal.main_v85 (Pipeline.mem_restRefs_of _ (by decide) (by decide))).trans (funext fun q => ?_),
      ((h c).2 _ (Pipeline.mem_restRefs_of _ (by decide) (by decide))).trans (Cert.Kernel2Ideal.Gen.W_main_arg0 m _ c),
      ((h c).2 _ (Pipeline.mem_restRefs_of _ (by decide) (by decide))).trans (Cert.Kernel2Ideal.Gen.W_main_arg1 m _ c),
      ((h c).2 _ (Pipeline.mem_restRefs_of _ (by decide) (by decide))).trans (Cert.Kernel2Ideal.Gen.W_main_arg2 m _ c)⟩
    obtain ⟨a, ch, i, j, rfl⟩ : ∃ (a : Fin 300) (ch : Fin 512) (i j : Fin 7), q = ix4 a ch i j := ⟨q 0, q 1, q 2, q 3, by funext d; fin_cases d <;> rfl⟩
    refine (result m c a ch i j).trans ?_
    rw [V_eq, V_eq, V_eq, V_eq, V_eq, V_eq]
    have hk := mark _ _ _ (hpre c) a
    rw [(hS c).mask] at hk
    exact agree (hS c) a ch i j rfl hk.1 hk.2
  · exact (θ_run _ _ _).mono (fun r h c => h c) (Cert.Reference2Ideal.Value.run m' g')

/-- The reference's frame: it runs, leaves its arguments unchanged and every counter at zero. -/
theorem frameRef (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
        ∧ r.2.sem = fun _ => 0) :=
  (θ_run Cert.Reference2Ideal.defs _ _).mono (fun r h => ⟨fun c => (h c).2, sem_eq_zero_of_no_sems (by decide) r.2⟩)
    (Cert.Reference2Ideal.Value.run m ρ)

end Cert.Proof.Pool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_flags
public import proofs.«01_k».proof.Proof.KernelFrame
public import proofs.«01_k».proof.Proof.RefRun
public import proofs.«01_k».proof.Proof.Nms
public import proofs.«01_k».proof.Proof.Body
public import proofs.«01_k».proof.Proof.Data
public import proofs.«01_k».proof.Proof.Launch
public import proofs.«01_k».proof.Proof.Result
public import proofs.«01_k».proof.Proof.First
public import proofs.«01_k».proof.Proof.Trip
public import proofs.«01_k».proof.Proof.Row
public import proofs.«01_k».proof.Proof.Spec
public import proofs.«01_k».proof.Proof.RefTrip
public import proofs.«01_k».proof.Proof.Greedy
public import proofs.«01_k».proof.Proof.RefBoxes
public import proofs.«01_k».proof.Proof.RefEntry
public import proofs.«01_k».proof.Proof.Net
public import proofs.«01_k».proof.Proof.RefNet
public import proofs.«01_k».proof.Proof.KernelCols
public import proofs.«01_k».proof.Proof.KernelNet
public import proofs.«01_k».proof.Proof.KernelBoxes
public import proofs.«01_k».proof.Proof.Equal
public import proofs.«01_k».proof.Proof.Algebraic
public import proofs.«01_k».proof.Proof.Tent
public import proofs.«01_k».proof.Proof.PoolKernel
public import proofs.«01_k».proof.Proof.PoolHost
public import proofs.«01_k».proof.Proof.PoolRef
public import proofs.«01_k».proof.Proof.PoolEqual
public import Idealize.ShloMosaic.Adequacy
public import Idealize.ShloMosaic.Init

@[expose] public section

noncomputable section

namespace Cert.Proof

open Idealize.ShloMosaic Idealize.SL.Sem

/-- The claim, for the proposals and for the pooling alike: the kernel as printed, its idealization and the reference run, leave
    their arguments unchanged and every counter at zero; the idealization is the kernel's own text, and over the ideal numbers it
    ends with the reference's results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_flags.Gen.facts,
  fun m ρ _ => Cert.Proof.Printed.frame m ρ, fun m ρ _ => Cert.Proof.frame m ρ, fun m ρ _ => Cert.Proof.Ref.frame m ρ,
  fun m ρ _ => Cert.Kernel2.Gen.frame m ρ, fun m ρ _ => Cert.Kernel2Ideal.Gen.frame m ρ, fun m ρ _ => Cert.Kernel2Ideal.Gen.frame m ρ,
  fun m ρ _ => Cert.Proof.Pool.frameRef m ρ, fun m ρ _ => Cert.Proof.Pool.frameRef m ρ,
  trivial, Cert.Proof.algebraic, trivial, Cert.Proof.Pool.algebraic⟩

end Cert.Proof

end
